-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 2048, 2048]⟩ ⟨3, ![2, 2048, 2048]⟩ (Layout.meshBlock [2, 2] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x2048 : Shape := ⟨3, ![1, 2048, 2048]⟩
abbrev S2048x2048 : Shape := ⟨2, ![2048, 2048]⟩
abbrev S2048 : Shape := ⟨1, ![2048]⟩
abbrev S1x2048 : Shape := ⟨2, ![1, 2048]⟩
abbrev S16x64x2048 : Shape := ⟨3, ![16, 64, 2048]⟩
abbrev S2x64x2048 : Shape := ⟨3, ![2, 64, 2048]⟩
abbrev S16 : Shape := ⟨1, ![16]⟩
abbrev S2 : Shape := ⟨1, ![2]⟩
abbrev S_ : Shape := ⟨0, ![]⟩
abbrev S1 : Shape := ⟨1, ![1]⟩
abbrev S1x64x2048 : Shape := ⟨3, ![1, 64, 2048]⟩
abbrev S64x2048 : Shape := ⟨2, ![64, 2048]⟩
abbrev S64 : Shape := ⟨1, ![64]⟩
abbrev S64x1 : Shape := ⟨2, ![64, 1]⟩

abbrev nBuf : Space → Nat
  | .hbm => 6
  | .vmem => 6
  | .smem => 0
  | _ => 0

abbrev bufTy : (tb : Table) → Fin (tcTables nBuf tb) → BufTy
  | .hbm, ⟨0, _⟩ => ⟨S1x2048x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S1x2048, .f32⟩
  | .hbm, ⟨5, _⟩ => ⟨S2048x2048, .f32⟩
  | .local _ .vmem, ⟨0, _⟩ => ⟨S1x2048, .f32⟩
  | .local _ .vmem, ⟨1, _⟩ => ⟨S16x64x2048, .f32⟩
  | .local _ .vmem, ⟨2, _⟩ => ⟨S16x64x2048, .f32⟩
  | .local _ .vmem, ⟨3, _⟩ => ⟨S2x64x2048, .f32⟩
  | .local _ .vmem, ⟨4, _⟩ => ⟨S2x64x2048, .f32⟩
  | .local _ .vmem, ⟨5, _⟩ => ⟨S2x64x2048, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 87 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | _ => false

abbrev sig : RefSig :=
  (ofTc nBuf bufTy 1 87 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_7 : BitVec 32 := 2#32
  let v12 : BitVec 32 := Scalar.muli v2 c2_i32_7
  let v13 : BitVec 32 := Scalar.addi c0_i32 v12
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_8 : BitVec 32 := 1#32
  let v14 : BitVec 32 := Scalar.muli v6 c1_i32_8
  let v15 : BitVec 32 := Scalar.addi v13 v14
  v15.toNat
def k0_dev2 (d0 : Dev nD) : Nat :=
  let c0_i32_11 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_10 : BitVec 32 := 2#32
  let v16 : BitVec 32 := Scalar.muli v7 c2_i32_10
  let v17 : BitVec 32 := Scalar.addi c0_i32_11 v16
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_12 : BitVec 32 := 1#32
  let v18 : BitVec 32 := Scalar.muli v5 c1_i32_12
  let v19 : BitVec 32 := Scalar.addi v17 v18
  v19.toNat
def k0_off1 (d0 : Dev nD) (c0_i32_14 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32 : BitVec 32 := 1024#32
  let v8 : BitVec 32 := Scalar.muli v2 c1024_i32
  let v20 : BitVec 32 := Scalar.addi v8 c0_i32_14
  let c0_i32_23 : BitVec 32 := 0#32
  ![v20.toNat, 0]
def k0_dev3 (d0 : Dev nD) : Nat :=
  let c0_i32_19 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_18 : BitVec 32 := 2#32
  let v21 : BitVec 32 := Scalar.muli v2 c2_i32_18
  let v22 : BitVec 32 := Scalar.addi c0_i32_19 v21
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_20 : BitVec 32 := 1#32
  let v23 : BitVec 32 := Scalar.muli v6 c1_i32_20
  let v24 : BitVec 32 := Scalar.addi v22 v23
  v24.toNat
def k0_dev4 (d0 : Dev nD) : Nat :=
  let c0_i32_28 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_27 : BitVec 32 := 2#32
  let v33 : BitVec 32 := Scalar.muli v2 c2_i32_27
  let v34 : BitVec 32 := Scalar.addi c0_i32_28 v33
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_29 : BitVec 32 := 1#32
  let v35 : BitVec 32 := Scalar.muli v6 c1_i32_29
  let v36 : BitVec 32 := Scalar.addi v34 v35
  v36.toNat
def k0_dev5 (d0 : Dev nD) : Nat :=
  let c0_i32_37 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_36 : BitVec 32 := 2#32
  let v45 : BitVec 32 := Scalar.muli v2 c2_i32_36
  let v46 : BitVec 32 := Scalar.addi c0_i32_37 v45
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_38 : BitVec 32 := 1#32
  let v47 : BitVec 32 := Scalar.muli v6 c1_i32_38
  let v48 : BitVec 32 := Scalar.addi v46 v47
  v48.toNat
def k0_dev6 (d0 : Dev nD) : Nat :=
  let c0_i32_45 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_44 : BitVec 32 := 2#32
  let v57 : BitVec 32 := Scalar.muli v2 c2_i32_44
  let v58 : BitVec 32 := Scalar.addi c0_i32_45 v57
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_46 : BitVec 32 := 1#32
  let v59 : BitVec 32 := Scalar.muli v6 c1_i32_46
  let v60 : BitVec 32 := Scalar.addi v58 v59
  v60.toNat
def k0_dev7 (d0 : Dev nD) : Nat :=
  let c0_i32_53 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_52 : BitVec 32 := 2#32
  let v69 : BitVec 32 := Scalar.muli v2 c2_i32_52
  let v70 : BitVec 32 := Scalar.addi c0_i32_53 v69
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_54 : BitVec 32 := 1#32
  let v71 : BitVec 32 := Scalar.muli v6 c1_i32_54
  let v72 : BitVec 32 := Scalar.addi v70 v71
  v72.toNat
def k0_dev8 (d0 : Dev nD) : Nat :=
  let c0_i32_61 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_60 : BitVec 32 := 2#32
  let v81 : BitVec 32 := Scalar.muli v2 c2_i32_60
  let v82 : BitVec 32 := Scalar.addi c0_i32_61 v81
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_62 : BitVec 32 := 1#32
  let v83 : BitVec 32 := Scalar.muli v6 c1_i32_62
  let v84 : BitVec 32 := Scalar.addi v82 v83
  v84.toNat
def k0_dev9 (d0 : Dev nD) : Nat :=
  let c0_i32_69 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_68 : BitVec 32 := 2#32
  let v93 : BitVec 32 := Scalar.muli v2 c2_i32_68
  let v94 : BitVec 32 := Scalar.addi c0_i32_69 v93
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_70 : BitVec 32 := 1#32
  let v95 : BitVec 32 := Scalar.muli v6 c1_i32_70
  let v96 : BitVec 32 := Scalar.addi v94 v95
  v96.toNat
def k0_dev10 (d0 : Dev nD) : Nat :=
  let c0_i32_77 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_76 : BitVec 32 := 2#32
  let v105 : BitVec 32 := Scalar.muli v2 c2_i32_76
  let v106 : BitVec 32 := Scalar.addi c0_i32_77 v105
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_78 : BitVec 32 := 1#32
  let v107 : BitVec 32 := Scalar.muli v6 c1_i32_78
  let v108 : BitVec 32 := Scalar.addi v106 v107
  v108.toNat
def k0_dev11 (d0 : Dev nD) : Nat :=
  let c0_i32_85 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_84 : BitVec 32 := 2#32
  let v117 : BitVec 32 := Scalar.muli v2 c2_i32_84
  let v118 : BitVec 32 := Scalar.addi c0_i32_85 v117
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_86 : BitVec 32 := 1#32
  let v119 : BitVec 32 := Scalar.muli v6 c1_i32_86
  let v120 : BitVec 32 := Scalar.addi v118 v119
  v120.toNat
def k0_dev12 (d0 : Dev nD) : Nat :=
  let c0_i32_93 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_92 : BitVec 32 := 2#32
  let v129 : BitVec 32 := Scalar.muli v2 c2_i32_92
  let v130 : BitVec 32 := Scalar.addi c0_i32_93 v129
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_94 : BitVec 32 := 1#32
  let v131 : BitVec 32 := Scalar.muli v6 c1_i32_94
  let v132 : BitVec 32 := Scalar.addi v130 v131
  v132.toNat
def k0_dev13 (d0 : Dev nD) : Nat :=
  let c0_i32_101 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_100 : BitVec 32 := 2#32
  let v141 : BitVec 32 := Scalar.muli v2 c2_i32_100
  let v142 : BitVec 32 := Scalar.addi c0_i32_101 v141
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_102 : BitVec 32 := 1#32
  let v143 : BitVec 32 := Scalar.muli v6 c1_i32_102
  let v144 : BitVec 32 := Scalar.addi v142 v143
  v144.toNat
def k0_dev14 (d0 : Dev nD) : Nat :=
  let c0_i32_109 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_108 : BitVec 32 := 2#32
  let v153 : BitVec 32 := Scalar.muli v2 c2_i32_108
  let v154 : BitVec 32 := Scalar.addi c0_i32_109 v153
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_110 : BitVec 32 := 1#32
  let v155 : BitVec 32 := Scalar.muli v6 c1_i32_110
  let v156 : BitVec 32 := Scalar.addi v154 v155
  v156.toNat
def k0_dev15 (d0 : Dev nD) : Nat :=
  let c0_i32_117 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_116 : BitVec 32 := 2#32
  let v165 : BitVec 32 := Scalar.muli v2 c2_i32_116
  let v166 : BitVec 32 := Scalar.addi c0_i32_117 v165
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_118 : BitVec 32 := 1#32
  let v167 : BitVec 32 := Scalar.muli v6 c1_i32_118
  let v168 : BitVec 32 := Scalar.addi v166 v167
  v168.toNat
def k0_dev16 (d0 : Dev nD) : Nat :=
  let c0_i32_125 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_124 : BitVec 32 := 2#32
  let v177 : BitVec 32 := Scalar.muli v2 c2_i32_124
  let v178 : BitVec 32 := Scalar.addi c0_i32_125 v177
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_126 : BitVec 32 := 1#32
  let v179 : BitVec 32 := Scalar.muli v6 c1_i32_126
  let v180 : BitVec 32 := Scalar.addi v178 v179
  v180.toNat
def k0_dev17 (d0 : Dev nD) : Nat :=
  let c0_i32_133 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_132 : BitVec 32 := 2#32
  let v189 : BitVec 32 := Scalar.muli v2 c2_i32_132
  let v190 : BitVec 32 := Scalar.addi c0_i32_133 v189
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_134 : BitVec 32 := 1#32
  let v191 : BitVec 32 := Scalar.muli v6 c1_i32_134
  let v192 : BitVec 32 := Scalar.addi v190 v191
  v192.toNat
def k0_dev18 (d0 : Dev nD) : Nat :=
  let c0_i32_141 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_140 : BitVec 32 := 2#32
  let v201 : BitVec 32 := Scalar.muli v2 c2_i32_140
  let v202 : BitVec 32 := Scalar.addi c0_i32_141 v201
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_142 : BitVec 32 := 1#32
  let v203 : BitVec 32 := Scalar.muli v6 c1_i32_142
  let v204 : BitVec 32 := Scalar.addi v202 v203
  v204.toNat
def k0_dev19 (d0 : Dev nD) : Nat :=
  let c0_i32_209 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_208 : BitVec 32 := 2#32
  let v280 : BitVec 32 := Scalar.muli v7 c2_i32_208
  let v281 : BitVec 32 := Scalar.addi c0_i32_209 v280
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_210 : BitVec 32 := 1#32
  let v282 : BitVec 32 := Scalar.muli v5 c1_i32_210
  let v283 : BitVec 32 := Scalar.addi v281 v282
  v283.toNat
def k0_dev20 (d0 : Dev nD) : Nat :=
  let c0_i32_273 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_272 : BitVec 32 := 2#32
  let v354 : BitVec 32 := Scalar.muli v7 c2_i32_272
  let v355 : BitVec 32 := Scalar.addi c0_i32_273 v354
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_274 : BitVec 32 := 1#32
  let v356 : BitVec 32 := Scalar.muli v5 c1_i32_274
  let v357 : BitVec 32 := Scalar.addi v355 v356
  v357.toNat
def k0_dev21 (d0 : Dev nD) : Nat :=
  let c0_i32_351 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_350 : BitVec 32 := 2#32
  let v439 : BitVec 32 := Scalar.muli v7 c2_i32_350
  let v440 : BitVec 32 := Scalar.addi c0_i32_351 v439
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_352 : BitVec 32 := 1#32
  let v441 : BitVec 32 := Scalar.muli v5 c1_i32_352
  let v442 : BitVec 32 := Scalar.addi v440 v441
  v442.toNat
def k0_dev22 (d0 : Dev nD) : Nat :=
  let c0_i32_429 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_428 : BitVec 32 := 2#32
  let v524 : BitVec 32 := Scalar.muli v7 c2_i32_428
  let v525 : BitVec 32 := Scalar.addi c0_i32_429 v524
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_430 : BitVec 32 := 1#32
  let v526 : BitVec 32 := Scalar.muli v5 c1_i32_430
  let v527 : BitVec 32 := Scalar.addi v525 v526
  v527.toNat
def k0_dev23 (d0 : Dev nD) : Nat :=
  let c0_i32_507 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_506 : BitVec 32 := 2#32
  let v609 : BitVec 32 := Scalar.muli v7 c2_i32_506
  let v610 : BitVec 32 := Scalar.addi c0_i32_507 v609
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_508 : BitVec 32 := 1#32
  let v611 : BitVec 32 := Scalar.muli v5 c1_i32_508
  let v612 : BitVec 32 := Scalar.addi v610 v611
  v612.toNat
def k0_dev24 (d0 : Dev nD) : Nat :=
  let c0_i32_585 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_584 : BitVec 32 := 2#32
  let v694 : BitVec 32 := Scalar.muli v7 c2_i32_584
  let v695 : BitVec 32 := Scalar.addi c0_i32_585 v694
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_586 : BitVec 32 := 1#32
  let v696 : BitVec 32 := Scalar.muli v5 c1_i32_586
  let v697 : BitVec 32 := Scalar.addi v695 v696
  v697.toNat
def k0_dev25 (d0 : Dev nD) : Nat :=
  let c0_i32_663 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_662 : BitVec 32 := 2#32
  let v779 : BitVec 32 := Scalar.muli v7 c2_i32_662
  let v780 : BitVec 32 := Scalar.addi c0_i32_663 v779
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_664 : BitVec 32 := 1#32
  let v781 : BitVec 32 := Scalar.muli v5 c1_i32_664
  let v782 : BitVec 32 := Scalar.addi v780 v781
  v782.toNat
def k0_dev26 (d0 : Dev nD) : Nat :=
  let c0_i32_741 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_740 : BitVec 32 := 2#32
  let v864 : BitVec 32 := Scalar.muli v7 c2_i32_740
  let v865 : BitVec 32 := Scalar.addi c0_i32_741 v864
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_742 : BitVec 32 := 1#32
  let v866 : BitVec 32 := Scalar.muli v5 c1_i32_742
  let v867 : BitVec 32 := Scalar.addi v865 v866
  v867.toNat
def k0_dev27 (d0 : Dev nD) : Nat :=
  let c0_i32_819 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_818 : BitVec 32 := 2#32
  let v949 : BitVec 32 := Scalar.muli v7 c2_i32_818
  let v950 : BitVec 32 := Scalar.addi c0_i32_819 v949
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_820 : BitVec 32 := 1#32
  let v951 : BitVec 32 := Scalar.muli v5 c1_i32_820
  let v952 : BitVec 32 := Scalar.addi v950 v951
  v952.toNat
def k0_dev28 (d0 : Dev nD) : Nat :=
  let c0_i32_897 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_896 : BitVec 32 := 2#32
  let v1034 : BitVec 32 := Scalar.muli v7 c2_i32_896
  let v1035 : BitVec 32 := Scalar.addi c0_i32_897 v1034
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_898 : BitVec 32 := 1#32
  let v1036 : BitVec 32 := Scalar.muli v5 c1_i32_898
  let v1037 : BitVec 32 := Scalar.addi v1035 v1036
  v1037.toNat
def k0_dev29 (d0 : Dev nD) : Nat :=
  let c0_i32_975 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_974 : BitVec 32 := 2#32
  let v1119 : BitVec 32 := Scalar.muli v7 c2_i32_974
  let v1120 : BitVec 32 := Scalar.addi c0_i32_975 v1119
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_976 : BitVec 32 := 1#32
  let v1121 : BitVec 32 := Scalar.muli v5 c1_i32_976
  let v1122 : BitVec 32 := Scalar.addi v1120 v1121
  v1122.toNat
def k0_dev30 (d0 : Dev nD) : Nat :=
  let c0_i32_1053 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1052 : BitVec 32 := 2#32
  let v1204 : BitVec 32 := Scalar.muli v7 c2_i32_1052
  let v1205 : BitVec 32 := Scalar.addi c0_i32_1053 v1204
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1054 : BitVec 32 := 1#32
  let v1206 : BitVec 32 := Scalar.muli v5 c1_i32_1054
  let v1207 : BitVec 32 := Scalar.addi v1205 v1206
  v1207.toNat
def k0_dev31 (d0 : Dev nD) : Nat :=
  let c0_i32_1131 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1130 : BitVec 32 := 2#32
  let v1289 : BitVec 32 := Scalar.muli v7 c2_i32_1130
  let v1290 : BitVec 32 := Scalar.addi c0_i32_1131 v1289
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1132 : BitVec 32 := 1#32
  let v1291 : BitVec 32 := Scalar.muli v5 c1_i32_1132
  let v1292 : BitVec 32 := Scalar.addi v1290 v1291
  v1292.toNat
def k0_dev32 (d0 : Dev nD) : Nat :=
  let c0_i32_1209 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1208 : BitVec 32 := 2#32
  let v1374 : BitVec 32 := Scalar.muli v7 c2_i32_1208
  let v1375 : BitVec 32 := Scalar.addi c0_i32_1209 v1374
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1210 : BitVec 32 := 1#32
  let v1376 : BitVec 32 := Scalar.muli v5 c1_i32_1210
  let v1377 : BitVec 32 := Scalar.addi v1375 v1376
  v1377.toNat
def k0_dev33 (d0 : Dev nD) : Nat :=
  let c0_i32_1287 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1286 : BitVec 32 := 2#32
  let v1459 : BitVec 32 := Scalar.muli v7 c2_i32_1286
  let v1460 : BitVec 32 := Scalar.addi c0_i32_1287 v1459
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1288 : BitVec 32 := 1#32
  let v1461 : BitVec 32 := Scalar.muli v5 c1_i32_1288
  let v1462 : BitVec 32 := Scalar.addi v1460 v1461
  v1462.toNat
def k0_dev34 (d0 : Dev nD) : Nat :=
  let c0_i32_1353 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1352 : BitVec 32 := 2#32
  let v1532 : BitVec 32 := Scalar.muli v7 c2_i32_1352
  let v1533 : BitVec 32 := Scalar.addi c0_i32_1353 v1532
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1354 : BitVec 32 := 1#32
  let v1534 : BitVec 32 := Scalar.muli v5 c1_i32_1354
  let v1535 : BitVec 32 := Scalar.addi v1533 v1534
  v1535.toNat
def k0_off2 (d0 : Dev nD) (c0_i32_1376 : BitVec 32) : Fin 2 → Nat :=
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_4 v2
  let c1024_i32_5 : BitVec 32 := 1024#32
  let v10 : BitVec 32 := Scalar.muli v9 c1024_i32_5
  let v1560 : BitVec 32 := Scalar.addi v10 c0_i32_1376
  let c0_i32_1379 : BitVec 32 := 0#32
  ![v1560.toNat, 0]
abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x2048x2048 : Shape := ⟨3, ![2, 2048, 2048]⟩
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 22
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2048x2048, .f32⟩
  | .hbm, ⟨2, _⟩ => ⟨S2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x2048, .f32⟩
  | .hbm, ⟨18, _⟩ => ⟨S2048x2048, .f32⟩
  | .hbm, ⟨19, _⟩ => ⟨S1x2048, .f32⟩
  | .hbm, ⟨20, _⟩ => ⟨S2048x2048, .f32⟩
  | .hbm, ⟨21, _⟩ => ⟨S2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.KI.Steps.lean ====
/-
  The kernel's body as one sequence of small steps over a tile number.

  The printed body is a straight line of some three hundred effects. Here the same line is written as a
  composition of steps, each a function of the tile it works on and of what follows it, so that a fact about a
  step is stated once for every tile: the two signals and the wait of the entry barrier, the sends of the partial
  rows to the column neighbour, the double-buffered tile loop, the copies of the row neighbour's rows to the
  output, and the waits that drain the semaphores.
-/
module

public import proofs.«01_k».proof.Proof.Gen.KernelIdeal
public import proofs.«01_k».proof.Proof.Gen.KernelIdeal.Points
public import proofs.«01_k».proof.Proof.Gen.KernelIdeal.Launch
public import Idealize.ShloMosaic.Lib.Pipeline.Regions

@[expose] public section

noncomputable section

namespace Cert.KernelIdeal.Fused

open Idealize.ShloMosaic Idealize.ShloMosaic.TcCoe
open Idealize.SL Idealize.SL.Sem
open Cert.KernelIdeal Cert.KernelIdeal.Gen

variable {F : FTy → Type} [FloatOps F]

/-- A program of a tensor core of this mesh. -/
abbrev TcProg (F : FTy → Type) := Prog (TpuEff nD τ sig (Elt F) Λ₀ .tc) PUnit

/-! ## Slots, rows and semaphores of a tile -/

/-- The slot of the double buffers tile `k` works in. -/
def par (k : Fin 16) : Fin 2 := ⟨k.val % 2, Nat.mod_lt _ (by decide)⟩

theorem inb16 (k : Fin 16) : ∀ a, (![k.val, 0, 0] : Fin 3 → Nat) a + S1x64x2048.size a ≤ S16x64x2048.size a := by
  revert k; decide
theorem inb2 (s : Fin 2) : ∀ a, (![s.val, 0, 0] : Fin 3 → Nat) a + S1x64x2048.size a ≤ S2x64x2048.size a := by
  revert s; decide
theorem inbSem16 (k : Fin 16) : ∀ a, (![k.val] : Fin 1 → Nat) a + S1.size a ≤ S16.size a := by
  revert k; decide
theorem inbSem2 (s : Fin 2) : ∀ a, (![s.val] : Fin 1 → Nat) a + S1.size a ≤ S2.size a := by
  revert s; decide

/-- Tile `k` of device `d`'s own half of a 2048 × 2048 array. -/
abbrev ownRows (m : Memref sig .tc .hbm S2048x2048 .f32) (d : Dev nD) (k : Fin 16) : Memref sig .tc .hbm S64x2048 .f32 :=
  m.slice (Rect.unit (s := S2048x2048) (k0_off1 d (BitVec.ofNat 32 (64 * k.val))) S64x2048.size (k0_off1_inb d k))
    (fun _ => rfl)

/-- Tile `k` of the other half. -/
abbrev otherRows (m : Memref sig .tc .hbm S2048x2048 .f32) (d : Dev nD) (k : Fin 16) : Memref sig .tc .hbm S64x2048 .f32 :=
  m.slice (Rect.unit (s := S2048x2048) (k0_off2 d (BitVec.ofNat 32 (64 * k.val))) S64x2048.size (k0_off2_inb d k))
    (fun _ => rfl)

/-- Slot `k` of a buffer of sixteen tiles, as a tile. -/
abbrev slot16 (m : Memref sig .tc .vmem S16x64x2048 .f32) (k : Fin 16) : Memref sig .tc .vmem S64x2048 .f32 :=
  (m.slice (Rect.unit (s := S16x64x2048) ![k.val, 0, 0] S1x64x2048.size (inb16 k)) (fun _ => rfl)).squeeze S64x2048
    squeezes_S1x64x2048_S64x2048

/-- Slot `s` of a buffer of two tiles, as a tile. -/
abbrev slot2 (m : Memref sig .tc .vmem S2x64x2048 .f32) (s : Fin 2) : Memref sig .tc .vmem S64x2048 .f32 :=
  (m.slice (Rect.unit (s := S2x64x2048) ![s.val, 0, 0] S1x64x2048.size (inb2 s)) (fun _ => rfl)).squeeze S64x2048
    squeezes_S1x64x2048_S64x2048

abbrev pA : Memref sig .tc .hbm S2048x2048 .f32 := Memref.whole main_v1
abbrev rA : Memref sig .tc .hbm S2048x2048 .f32 := Memref.whole main_arg1
abbrev oA : Memref sig .tc .hbm S2048x2048 .f32 := Memref.whole main_v3
abbrev gB : Memref sig .tc .vmem S1x2048 .f32 := Memref.whole cc0_stg0_0
abbrev yB : Memref sig .tc .vmem S16x64x2048 .f32 := Memref.whole cc0_scratch0
abbrev xB : Memref sig .tc .vmem S16x64x2048 .f32 := Memref.whole cc0_scratch1
abbrev pB : Memref sig .tc .vmem S2x64x2048 .f32 := Memref.whole cc0_scratch2
abbrev rB : Memref sig .tc .vmem S2x64x2048 .f32 := Memref.whole cc0_scratch3
abbrev oB : Memref sig .tc .vmem S2x64x2048 .f32 := Memref.whole cc0_scratch4

abbrev sem16 (a : DmaSems sig S16) (k : Fin 16) : DmaSem sig :=
  ((a.slice (Rect.unit (s := S16) ![k.val] S1.size (inbSem16 k))).squeeze S_ squeezes_S1_S_).sem
abbrev sem2 (a : DmaSems sig S2) (s : Fin 2) : DmaSem sig :=
  ((a.slice (Rect.unit (s := S2) ![s.val] S1.size (inbSem2 s))).squeeze S_ squeezes_S1_S_).sem

abbrev barS : Sem sig := sig.barrier 0 rfl
abbrev ysS (k : Fin 16) : DmaSem sig := sem16 cc0_scratch5 k
abbrev yrS (k : Fin 16) : DmaSem sig := sem16 cc0_scratch6 k
abbrev xsS (k : Fin 16) : DmaSem sig := sem16 cc0_scratch7 k
abbrev xrS (k : Fin 16) : DmaSem sig := sem16 cc0_scratch8 k
abbrev ppS (s : Fin 2) : DmaSem sig := sem2 cc0_scratch9 s
abbrev rrS (s : Fin 2) : DmaSem sig := sem2 cc0_scratch10 s
abbrev ooS (s : Fin 2) : DmaSem sig := sem2 cc0_scratch11 s
abbrev xoS (k : Fin 16) : DmaSem sig := sem16 cc0_scratch12 k

/-- The column neighbour's number, as the kernel computes it. -/
abbrev devY (d : Dev nD) : Dev nD := ⟨k0_dev1 d, k0_dev1_lt d⟩
/-- The row neighbour's number, as the kernel computes it. -/
abbrev devX (d : Dev nD) : Dev nD := ⟨k0_dev2 d, k0_dev2_lt d⟩

/-! ## What a tile computes -/

/-- The sum of the two partial tiles and the residual's tile. -/
def tileSum (p y r : Vec F S1x64x2048 .f32) : FVec F S64x2048 .f32 :=
  addf (addf (shapeCast S64x2048 p shapeCasts_S1x64x2048_S64x2048) (shapeCast S64x2048 y shapeCasts_S1x64x2048_S64x2048))
    (shapeCast S64x2048 r shapeCasts_S1x64x2048_S64x2048)

/-- The tile normalised by its rows' mean squares and scaled. -/
def tileNorm (v : FVec F S64x2048 .f32) (g : Vec F S1x2048 .f32) : FVec F S64x2048 .f32 :=
  mulf (mulf v (broadcastTo S64x2048 (rsqrt (addf (divf (shapeCast S64x1
      (multiReduction .add [1] S64 (mulf v v) 0x00000000#32 reduces_S64x2048_S64 (.inl rfl) rfl) shapeCasts_S64_S64x1)
      (broadcast S64x1 (Scalar.ofBits .f32 0x45000000#32))) (broadcast S64x1 (Scalar.ofBits .f32 0x358637BD#32))))
      broadcasts_S64x1_S64x2048))
    (broadcastTo S64x2048 (shapeCast S1x2048 g shapeCasts_S1x2048_S1x2048) broadcasts_S1x2048_S64x2048)

/-- What the kernel stores for a tile. -/
def tileOut (p y r : Vec F S1x64x2048 .f32) (g : Vec F S1x2048 .f32) : Vec F S1x64x2048 .f32 :=
  shapeCast S1x64x2048 (tileNorm (tileSum p y r) g) shapeCasts_S64x2048_S1x64x2048

/-! ## The steps -/

def signalTo (e : Dev nD) (K : TcProg F) : TcProg F := .op (.semSignal (e, .tc) barS (1#32).toInt) fun _ => K
def waitBar (K : TcProg F) : TcProg F := .op (.semWait barS (2#32).toInt) fun _ => K

/-- Send tile `k` of the partial rows to the column neighbour. -/
def ySend (d : Dev nD) (k : Fin 16) (K : TcProg F) : TcProg F :=
  .op (.enqueueDma (ownRows pA d k) (.remote (Dev.tc (devY d)) (slot16 yB k) (.dma (ysS k))) (.dma (yrS k))
    (View.wordExact_bits rfl) ((View.wordExact_bits rfl).reshape _ _) ⟨⟨rfl, Or.inl rfl⟩, trivial⟩) fun _ => K

/-- Start copying tile `k` of the partial and of the residual into slot `s`. -/
def loadP (d : Dev nD) (k : Fin 16) (s : Fin 2) (K : TcProg F) : TcProg F :=
  .op (.enqueueDma (ownRows pA d k) (.here (slot2 pB s)) (.dma (ppS s)) (View.wordExact_bits rfl)
    ((View.wordExact_bits rfl).reshape _ _) ⟨Or.inl rfl, trivial⟩) fun _ => K
def loadR (d : Dev nD) (k : Fin 16) (s : Fin 2) (K : TcProg F) : TcProg F :=
  .op (.enqueueDma (ownRows rA d k) (.here (slot2 rB s)) (.dma (rrS s)) (View.wordExact_bits rfl)
    ((View.wordExact_bits rfl).reshape _ _) ⟨Or.inl rfl, trivial⟩) fun _ => K

def waitP (d : Dev nD) (k : Fin 16) (s : Fin 2) (K : TcProg F) : TcProg F :=
  .op (.waitDma2 (ppS s) (ownRows pA d k) (slot2 pB s) (View.wordExact_bits rfl)
    ((View.wordExact_bits rfl).reshape _ _)) fun _ => K
def waitR (d : Dev nD) (k : Fin 16) (s : Fin 2) (K : TcProg F) : TcProg F :=
  .op (.waitDma2 (rrS s) (ownRows rA d k) (slot2 rB s) (View.wordExact_bits rfl)
    ((View.wordExact_bits rfl).reshape _ _)) fun _ => K
def waitY (d : Dev nD) (k : Fin 16) (K : TcProg F) : TcProg F :=
  .op (.waitDma2 (yrS k) (ownRows pA d k) (slot16 yB k) (View.wordExact_bits rfl)
    ((View.wordExact_bits rfl).reshape _ _)) fun _ => K

/-- The rectangle of a buffer of two tiles a slot is. -/
abbrev rect2 (s : Fin 2) : Rect S2x64x2048 := Rect.unit (s := S2x64x2048) ![s.val, 0, 0] S1x64x2048.size (inb2 s)
/-- The rectangle of a buffer of sixteen tiles a slot is. -/
abbrev rect16 (k : Fin 16) : Rect S16x64x2048 := Rect.unit (s := S16x64x2048) ![k.val, 0, 0] S1x64x2048.size (inb16 k)

def read2 (m : Memref sig .tc .vmem S2x64x2048 .f32) (s : Fin 2) (K : Vec F S1x64x2048 .f32 → TcProg F) : TcProg F :=
  .op (.load m (rect2 s).toLoadRect (View.loadsAt_vmem h_S1x64x2048)) K
def read16 (m : Memref sig .tc .vmem S16x64x2048 .f32) (k : Fin 16) (K : Vec F S1x64x2048 .f32 → TcProg F) : TcProg F :=
  .op (.load m (rect16 k).toLoadRect (View.loadsAt_vmem h_S1x64x2048)) K
def readG (K : Vec F S1x2048 .f32 → TcProg F) : TcProg F :=
  .op (.load gB (Rect.unit (s := S1x2048) ![0, 0] S1x2048.size inb_S1x2048_S1x2048_0_0).toLoadRect
    (View.loadsAt_vmem h_S1x2048)) K
def writeO (s : Fin 2) (w : Vec F S1x64x2048 .f32) (K : TcProg F) : TcProg F :=
  .op (.store oB (rect2 s) w Finset.univ (View.stores_vmem_bits_univ h_S1x64x2048 rfl) (.inl rfl)) fun _ => K

/-- Send the finished tile to the row neighbour. -/
def xSend (d : Dev nD) (k : Fin 16) (s : Fin 2) (K : TcProg F) : TcProg F :=
  .op (.enqueueDma (slot2 oB s) (.remote (Dev.tc (devX d)) (slot16 xB k) (.dma (xsS k))) (.dma (xrS k))
    ((View.wordExact_bits rfl).reshape _ _) ((View.wordExact_bits rfl).reshape _ _) ⟨⟨rfl, Or.inl rfl⟩, trivial⟩) fun _ => K
/-- Copy the finished tile to the own half of the output. -/
def storeO (d : Dev nD) (k : Fin 16) (s : Fin 2) (K : TcProg F) : TcProg F :=
  .op (.enqueueDma (slot2 oB s) (.here (ownRows oA d k)) (.dma (ooS s)) ((View.wordExact_bits rfl).reshape _ _)
    (View.wordExact_bits rfl) ⟨Or.inl rfl, trivial⟩) fun _ => K
def waitO (d : Dev nD) (k : Fin 16) (s : Fin 2) (K : TcProg F) : TcProg F :=
  .op (.waitDma2 (ooS s) (slot2 oB s) (ownRows oA d k) ((View.wordExact_bits rfl).reshape _ _)
    (View.wordExact_bits rfl)) fun _ => K
def waitXs (k : Fin 16) (s : Fin 2) (K : TcProg F) : TcProg F :=
  .op (.waitDma2 (xsS k) (slot16 xB k) (slot2 oB s) ((View.wordExact_bits rfl).reshape _ _)
    ((View.wordExact_bits rfl).reshape _ _)) fun _ => K
def waitXr (k : Fin 16) (s : Fin 2) (K : TcProg F) : TcProg F :=
  .op (.waitDma2 (xrS k) (slot2 oB s) (slot16 xB k) ((View.wordExact_bits rfl).reshape _ _)
    ((View.wordExact_bits rfl).reshape _ _)) fun _ => K
/-- Copy the row neighbour's tile to the other half of the output. -/
def storeX (d : Dev nD) (k : Fin 16) (K : TcProg F) : TcProg F :=
  .op (.enqueueDma (slot16 xB k) (.here (otherRows oA d k)) (.dma (xoS k)) ((View.wordExact_bits rfl).reshape _ _)
    (View.wordExact_bits rfl) ⟨Or.inl rfl, trivial⟩) fun _ => K
def waitXo (d : Dev nD) (k : Fin 16) (K : TcProg F) : TcProg F :=
  .op (.waitDma2 (xoS k) (slot16 xB k) (otherRows oA d k) ((View.wordExact_bits rfl).reshape _ _)
    (View.wordExact_bits rfl)) fun _ => K
def waitYs (d : Dev nD) (k : Fin 16) (K : TcProg F) : TcProg F :=
  .op (.waitDma2 (ysS k) (slot16 yB k) (ownRows pA d k) ((View.wordExact_bits rfl).reshape _ _)
    (View.wordExact_bits rfl)) fun _ => K

/-! ## The loops -/

/-- The tile two before `k`. -/
def back2 (k : Fin 16) : Fin 16 := ⟨k.val - 2, by have := k.isLt; omega⟩
/-- The tile after `k`. -/
def next (k : Fin 16) : Fin 16 := ⟨(k.val + 1) % 16, Nat.mod_lt _ (by decide)⟩

/-- `f` at the tiles `k, k + 1, …` in order, `n` of them, and then `K`. -/
def steps (f : Fin 16 → TcProg F → TcProg F) : Nat → Nat → TcProg F → TcProg F
  | _, 0, K => K
  | k, n + 1, K => if h : k < 16 then f ⟨k, h⟩ (steps f (k + 1) n K) else K

/-- Start the copies of the tile after `k`, if there is one. -/
def prefetch (d : Dev nD) (k : Fin 16) (K : TcProg F) : TcProg F :=
  if k.val < 15 then loadP d (next k) (par (next k)) (loadR d (next k) (par (next k)) K) else K

/-- Wait until the slot's previous tile has left it, if it held one. -/
def reclaim (d : Dev nD) (k : Fin 16) (K : TcProg F) : TcProg F :=
  if 2 ≤ k.val then waitO d (back2 k) (par k) (waitXs (back2 k) (par k) K) else K

/-- One turn of the tile loop. -/
def tile (d : Dev nD) (k : Fin 16) (K : TcProg F) : TcProg F :=
  prefetch d k <| waitP d k (par k) <| waitR d k (par k) <| waitY d k <|
  read2 pB (par k) fun p => read16 yB k fun y => read2 rB (par k) fun r =>
  reclaim d k <| readG fun g => read2 oB (par k) fun _ =>
  writeO (par k) (tileOut p y r g) <| xSend d k (par k) <| storeO d k (par k) K

/-- One turn of the loop over the row neighbour's tiles. -/
def collect (d : Dev nD) (k : Fin 16) (K : TcProg F) : TcProg F := waitXr k (par k) (storeX d k K)

/-- The body on device `d`. -/
def bodyOn (d : Dev nD) : TcProg F :=
  signalTo (devY d) <| signalTo (devX d) <| waitBar <|
  steps (ySend d) 0 16 <|
  loadP d 0 0 <| loadR d 0 0 <|
  steps (tile d) 0 16 <|
  steps (collect d) 0 16 <|
  waitO d 14 0 <| waitO d 15 1 <| waitXs 14 0 <| waitXs 15 1 <|
  steps (waitXo d) 0 16 <|
  steps (waitYs d) 0 16 <|
  .ret ⟨⟩

/-- The printed body is that sequence. -/
theorem body_eq (t : Fin cfg0.N) : bodyAt0 (F := F) t = .op .deviceId bodyOn := by
  obtain rfl : t = t0_0 := fin_N0 t
  chain_rfl

end Cert.KernelIdeal.Fused
-- ==== Proof.KI.Tiles.lean ====
/-
  Ownership of a tile, and the arrays and buffers of the kernel cut into tiles.

  A tile is a 64 × 2048 window of an array or of a buffer. Owning a tile is said with the value the window reads,
  not with the contents of the array around it. An array held whole is its thirty-two tiles, a buffer of slots its
  slots, and back.
-/
module

public import proofs.«01_k».proof.Proof.KI.Steps
public import Idealize.ShloMosaic.Lib.Rounds
public import Idealize.ShloMosaic.Lib.Tactic
public import Idealize.ShloMosaic.Lib.Pipeline.RegionTalk
public import Idealize.ShloMosaic.Lib.Pipeline.Value

@[expose] public section

noncomputable section

namespace Cert.KernelIdeal.Fused

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- The ghost state: the pipeline's copy of the rounds algebra, and the kernel's own, whose duties are told apart by a Bool. -/
abbrev UU : Type := UR sig nD τ × URounds (GSem nD τ sig) Bool

local notation "𝕄" => MT nD τ sig Unit (Elt F) ℕ UU ℕ

abbrev Tile (F : FTy → Type) := Vec F S64x2048 .f32

/-! ## Owning a tile -/

section Own

variable {sp : Space} (c : Dev nD) (M : Memref sig .tc sp S64x2048 .f32) (q : PosShare TreeShare)

/-- Share `q` of a tile that reads `T`. -/
def tilePts (T : Tile F) : sProp 𝕄 :=
  iprop(∃ f, ⌜M.view.read (Elt F) f = T⌝ ∗ M.view.loc (c : Thread nD τ) ↦[M.view.set]{q} f)

/-- A tile, whatever it reads. -/
def tileAny : sProp 𝕄 := iprop(∃ T, tilePts (F := F) c M fullShare T)

instance tilePts_storable (T : Tile F) : BI.Storable (upEmb : UEmb _ 𝕄) (tilePts c M q T) := by
  unfold tilePts; infer_instance
instance tileAny_storable : BI.Storable (upEmb : UEmb _ 𝕄) (tileAny (F := F) c M) := by
  unfold tileAny; infer_instance

theorem tilePts_intro (f : Buf (Elt F) (M.view.loc (c : Thread nD τ))) :
    (M.view.loc (c : Thread nD τ) ↦[M.view.set]{q} f) ⊢ (tilePts c M q (M.view.read (Elt F) f) : sProp 𝕄) := by
  unfold tilePts; iintro H; iexists f; isplitr
  · ipureintro; rfl
  · iexact H

/-- A read of a tile says what the contents are on its window. -/
theorem eq_of_read {f g : Buf (Elt F) (M.view.loc (c : Thread nD τ))} (h : M.view.read (Elt F) f = M.view.read (Elt F) g) :
    ∀ i ∈ M.view.set, f i = g i := by
  intro i hi
  obtain ⟨x, -, rfl⟩ := Finset.mem_map.mp hi
  have hx := congrFun h x
  rw [View.read_apply, View.read_apply] at hx
  exact (cast_bijective (congrArg (Elt F) M.view.elt_eq)).injective hx

theorem tilePts_elim {T : Tile F} (g : Buf (Elt F) (M.view.loc (c : Thread nD τ))) (h : M.view.read (Elt F) g = T) :
    tilePts c M q T ⊢ (M.view.loc (c : Thread nD τ) ↦[M.view.set]{q} g : sProp 𝕄) := by
  unfold tilePts; iintro ⟨%f, %hf, H⟩
  iapply (Entails.of_eq (pointsTo_congr (eq_of_read c M (hf.trans h.symm)))) $$ H

theorem tilePts_any (T : Tile F) : tilePts c M fullShare T ⊢ (tileAny c M : sProp 𝕄) := by
  unfold tileAny; iintro H; iexists T; iexact H

/-- A tile's share in two halves, and back. -/
theorem tilePts_split (T : Tile F) :
    tilePts c M fullShare T ⊢ (iprop(tilePts c M fullShare.left T ∗ tilePts c M fullShare.right T) : sProp 𝕄) := by
  unfold tilePts; iintro ⟨%f, %hf, H⟩
  ihave H' := (pointsTo_share (PosShare.mem_left_op_right fullShare)).1 $$ H
  icases H' with ⟨Hl, Hr⟩
  isplitl [Hl]
  · iexists f; isplitr
    · ipureintro; exact hf
    · iexact Hl
  · iexists f; isplitr
    · ipureintro; exact hf
    · iexact Hr

theorem tilePts_merge (T : Tile F) :
    iprop(tilePts c M fullShare.left T ∗ tilePts c M fullShare.right T) ⊢ (tilePts c M fullShare T : sProp 𝕄) := by
  iintro ⟨Hl, Hr⟩
  unfold tilePts
  icases Hl with ⟨%f, %hf, Hl⟩
  ihave Hr' := (tilePts_elim (F := F) c M fullShare.right f hf) $$ [Hr]
  · unfold tilePts; iexact Hr
  iexists f; isplitr
  · ipureintro; exact hf
  iapply (pointsTo_share (PosShare.mem_left_op_right fullShare)).2
  isplitl [Hl] <;> iassumption

end Own

/-! ## A buffer cut along rectangles -/

section Cut

variable {B : Type} [Fintype B] [DecidableEq B] {sp : Space} {s : Shape} {e : EltTy} (c : Dev nD) (m : Memref sig .tc sp s e)
  (r : B → Rect s)

/-- The elements of a piece. -/
def piece (b : B) : Finset m.view.ty.Idx := (m.view.slice (r b)).set

theorem cut_set (hm : m.view.set = Finset.univ) (hc : ∀ i, ∃ b, i ∈ (r b).set) :
    (Finset.univ : Finset B).biUnion (piece m r) = Finset.univ := by
  refine Finset.eq_univ_iff_forall.mpr fun x => ?_
  have hx : x ∈ m.view.set := hm ▸ Finset.mem_univ x
  obtain ⟨i, -, rfl⟩ := Finset.mem_map.mp hx
  obtain ⟨b, hb⟩ := hc i
  refine Finset.mem_biUnion.mpr ⟨b, Finset.mem_univ _, ?_⟩
  unfold piece
  rw [View.set_slice]
  exact Finset.mem_map_of_mem _ hb

theorem cut_disjoint (hd : ∀ b b', b ≠ b' → Disjoint (r b).set (r b').set) :
    ∀ b ∈ (Finset.univ : Finset B), ∀ b' ∈ (Finset.univ : Finset B), b ≠ b' →
      Disjoint (piece m r b) (piece m r b') := by
  intro b _ b' _ h
  unfold piece
  rw [View.set_slice, View.set_slice]
  exact (Finset.disjoint_map _).mpr (hd b b' h)

/-- The buffer at `f` is its pieces at `f`. -/
theorem cut (hm : m.view.set = Finset.univ) (hd : ∀ b b', b ≠ b' → Disjoint (r b).set (r b').set)
    (hc : ∀ i, ∃ b, i ∈ (r b).set) (q : PosShare TreeShare) (f : Buf (Elt F) (m.view.loc (c : Thread nD τ))) :
    (m.view.loc (c : Thread nD τ) ↦{q} f : sProp 𝕄)
      = bigSep Finset.univ fun b => (m.view.loc (c : Thread nD τ) ↦[piece m r b]{q} f : sProp 𝕄) := by
  rw [← pointsTo_biUnion _ _ (cut_disjoint m r hd), cut_set m r hm hc]

/-- Pieces at contents of their own are the buffer at some contents. -/
theorem cut_join (hm : m.view.set = Finset.univ) (hd : ∀ b b', b ≠ b' → Disjoint (r b).set (r b').set)
    (hc : ∀ i, ∃ b, i ∈ (r b).set) (q : PosShare TreeShare) (f : B → Buf (Elt F) (m.view.loc (c : Thread nD τ)))
    (f₀ : Buf (Elt F) (m.view.loc (c : Thread nD τ))) :
    (bigSep Finset.univ fun b => (m.view.loc (c : Thread nD τ) ↦[piece m r b]{q} f b : sProp 𝕄))
      ⊢ (iprop(∃ g, m.view.loc (c : Thread nD τ) ↦{q} g) : sProp 𝕄) := by
  refine (pointsTo_biUnion_join _ _ f f₀ (cut_disjoint m r hd)).trans ?_
  rw [cut_set m r hm hc]
  iintro ⟨%g, -, H⟩; iexists g; iexact H

end Cut

/-! ## The rows of a 2048 × 2048 array -/

/-- The rectangle of a tile of device `d`'s own half, and of one of the other half. -/
abbrev ownRect (d : Dev nD) (k : Fin 16) : Rect S2048x2048 :=
  Rect.unit (s := S2048x2048) (k0_off1 d (BitVec.ofNat 32 (64 * k.val))) S64x2048.size (k0_off1_inb d k)
abbrev otherRect (d : Dev nD) (k : Fin 16) : Rect S2048x2048 :=
  Rect.unit (s := S2048x2048) (k0_off2 d (BitVec.ofNat 32 (64 * k.val))) S64x2048.size (k0_off2_inb d k)

theorem mem_ownRect (d : Dev nD) (k : Fin 16) (i : S2048x2048.Idx) :
    i ∈ (ownRect d k).set ↔ 1024 * (d.val / 2) + 64 * k.val ≤ (i 0).val ∧ (i 0).val < 1024 * (d.val / 2) + 64 * k.val + 64 := by
  rw [Rect.mem_set_unit, k0_off1_eq, Fin.forall_fin_two]
  have h1 : (i 1).val < 2048 := (i 1).isLt
  constructor
  · rintro ⟨h, -⟩; exact h
  · intro h; exact ⟨h, Nat.zero_le _, by show (i 1).val < 0 + 2048; omega⟩

theorem mem_otherRect (d : Dev nD) (k : Fin 16) (i : S2048x2048.Idx) :
    i ∈ (otherRect d k).set ↔ (64 * k.val + 1024) - 1024 * (d.val / 2) ≤ (i 0).val
      ∧ (i 0).val < (64 * k.val + 1024) - 1024 * (d.val / 2) + 64 := by
  rw [Rect.mem_set_unit, k0_off2_eq, Fin.forall_fin_two]
  have h1 : (i 1).val < 2048 := (i 1).isLt
  constructor
  · rintro ⟨h, -⟩; exact h
  · intro h; exact ⟨h, Nat.zero_le _, by show (i 1).val < 0 + 2048; omega⟩

/-- The thirty-two tiles: those of the own half and those of the other. -/
abbrev rowRect (d : Dev nD) : Fin 16 ⊕ Fin 16 → Rect S2048x2048 := Sum.elim (ownRect d) (otherRect d)

theorem rowRect_disjoint (d : Dev nD) (b b' : Fin 16 ⊕ Fin 16) (h : b ≠ b') : Disjoint (rowRect d b).set (rowRect d b').set := by
  refine Finset.disjoint_left.mpr fun i hi hi' => h ?_
  have hd : d.val < 4 := d.isLt
  rcases b with k | k <;> rcases b' with k' | k' <;>
    simp only [Sum.elim_inl, Sum.elim_inr, mem_ownRect, mem_otherRect] at hi hi' <;>
    have := k.isLt <;> have := k'.isLt
  · exact congrArg Sum.inl (Fin.ext (by omega))
  · exfalso; omega
  · exfalso; omega
  · exact congrArg Sum.inr (Fin.ext (by omega))

theorem rowRect_cover (d : Dev nD) (i : S2048x2048.Idx) : ∃ b, i ∈ (rowRect d b).set := by
  have hd : d.val < 4 := d.isLt
  have hi : (i 0).val < 2048 := (i 0).isLt
  by_cases h : (i 0).val / 1024 = d.val / 2
  · refine ⟨.inl ⟨(i 0).val % 1024 / 64, by omega⟩, (mem_ownRect d _ i).mpr ?_⟩
    show _ ∧ _; dsimp only; omega
  · refine ⟨.inr ⟨(i 0).val % 1024 / 64, by omega⟩, (mem_otherRect d _ i).mpr ?_⟩
    show _ ∧ _; dsimp only; omega

section Rows

variable (c : Dev nD) (m : Memref sig .tc .hbm S2048x2048 .f32) (hm : m.view.set = Finset.univ)
include hm

/-- The array at `f` as its tiles. -/
theorem rows_cut (f : Buf (Elt F) (m.view.loc (c : Thread nD τ))) :
    (m.view.loc (c : Thread nD τ) ↦{fullShare} f : sProp 𝕄)
      ⊢ iprop((bigSep Finset.univ fun k => tilePts c (ownRows m c k) fullShare ((ownRows m c k).view.read (Elt F) f))
        ∗ bigSep Finset.univ fun k => tilePts c (otherRows m c k) fullShare ((otherRows m c k).view.read (Elt F) f)) := by
  rw [cut c m (rowRect c) hm (rowRect_disjoint c) (rowRect_cover c), bigSep_univ_sum]
  exact BIClass.sep_mono (bigSep_mono fun k _ => tilePts_intro c (ownRows m c k) fullShare f)
    (bigSep_mono fun k _ => tilePts_intro c (otherRows m c k) fullShare f)

/-- The tiles that read `f` make the array at `f`. -/
theorem rows_join (f : Buf (Elt F) (m.view.loc (c : Thread nD τ))) :
    iprop((bigSep Finset.univ fun k => tilePts c (ownRows m c k) fullShare ((ownRows m c k).view.read (Elt F) f))
        ∗ bigSep Finset.univ fun k => tilePts c (otherRows m c k) fullShare ((otherRows m c k).view.read (Elt F) f))
      ⊢ (m.view.loc (c : Thread nD τ) ↦{fullShare} f : sProp 𝕄) := by
  rw [cut c m (rowRect c) hm (rowRect_disjoint c) (rowRect_cover c), bigSep_univ_sum]
  exact BIClass.sep_mono (bigSep_mono fun k _ => tilePts_elim c (ownRows m c k) fullShare f rfl)
    (bigSep_mono fun k _ => tilePts_elim c (otherRows m c k) fullShare f rfl)

end Rows

/-! ## The slots of a buffer -/

theorem rect16_disjoint (b b' : Fin 16) (h : b ≠ b') : Disjoint (rect16 b).set (rect16 b').set := by
  have hb : b.val ≠ b'.val := fun e => h (Fin.ext e)
  refine Rect.unit_disjoint (0 : Fin 3) ?_
  show b.val + 1 ≤ b'.val ∨ b'.val + 1 ≤ b.val
  omega
theorem rect16_cover (i : S16x64x2048.Idx) : ∃ b, i ∈ (rect16 b).set := by
  refine ⟨i 0, Rect.mem_set_unit.mpr fun a => ?_⟩
  have h1 : (i 1).val < 64 := (i 1).isLt
  have h2 : (i 2).val < 2048 := (i 2).isLt
  fin_cases a
  · exact ⟨le_refl (i 0).val, Nat.lt_succ_self (i 0).val⟩
  · exact ⟨Nat.zero_le _, by show (i 1).val < 0 + 64; omega⟩
  · exact ⟨Nat.zero_le _, by show (i 2).val < 0 + 2048; omega⟩
theorem rect2_disjoint (b b' : Fin 2) (h : b ≠ b') : Disjoint (rect2 b).set (rect2 b').set := by
  have hb : b.val ≠ b'.val := fun e => h (Fin.ext e)
  refine Rect.unit_disjoint (0 : Fin 3) ?_
  show b.val + 1 ≤ b'.val ∨ b'.val + 1 ≤ b.val
  omega
theorem rect2_cover (i : S2x64x2048.Idx) : ∃ b, i ∈ (rect2 b).set := by
  refine ⟨i 0, Rect.mem_set_unit.mpr fun a => ?_⟩
  have h1 : (i 1).val < 64 := (i 1).isLt
  have h2 : (i 2).val < 2048 := (i 2).isLt
  fin_cases a
  · exact ⟨le_refl (i 0).val, Nat.lt_succ_self (i 0).val⟩
  · exact ⟨Nat.zero_le _, by show (i 1).val < 0 + 64; omega⟩
  · exact ⟨Nat.zero_le _, by show (i 2).val < 0 + 2048; omega⟩

theorem slot_any {B : Type} {s : Shape} (c : Dev nD) (m : Memref sig .tc .vmem s .f32)
    (r : B → Rect s) (hr : ∀ b a, (r b).stride a = 1) (hq : ∀ b, (r b).shape.Squeezes S64x2048)
    (f : Buf (Elt F) (m.view.loc (c : Thread nD τ))) (b : B) :
    (m.view.loc (c : Thread nD τ) ↦[piece m r b]{fullShare} f : sProp 𝕄)
      ⊢ tileAny (F := F) c ((m.slice (r b) (hr b)).squeeze S64x2048 (hq b)) := by
  have h : (m.view.loc (c : Thread nD τ) ↦[piece m r b]{fullShare} f : sProp 𝕄)
      = (m.view.loc (c : Thread nD τ) ↦[((m.view.slice (r b)).reshape S64x2048 (hq b).numel_eq).set]{fullShare} f : sProp 𝕄) := by
    rw [View.set_reshape]; rfl
  rw [h]
  unfold tileAny tilePts
  iintro H
  iexists _, f
  isplitr
  · ipureintro; rfl
  · iexact H

/-- Slots at any contents, from the buffer at any contents, and back: for a family of tiles that are the squeezed slices
    of one buffer along a partition of it. -/
theorem slots_cut {B : Type} [Fintype B] [DecidableEq B] {s : Shape} (c : Dev nD) (m : Memref sig .tc .vmem s .f32)
    (hm : m.view.set = Finset.univ) (r : B → Rect s) (hr : ∀ b a, (r b).stride a = 1) (hd : ∀ b b', b ≠ b' → Disjoint (r b).set (r b').set)
    (hc : ∀ i, ∃ b, i ∈ (r b).set) (hq : ∀ b, (r b).shape.Squeezes S64x2048) :
    (iprop(∃ f, m.view.loc (c : Thread nD τ) ↦{fullShare} f) : sProp 𝕄)
      ⊢ bigSep Finset.univ fun b => tileAny (F := F) c ((m.slice (r b) (hr b)).squeeze S64x2048 (hq b)) := by
  have h1 : ∀ f, (m.view.loc (c : Thread nD τ) ↦{fullShare} f : sProp 𝕄)
      ⊢ bigSep Finset.univ fun b => tileAny (F := F) c ((m.slice (r b) (hr b)).squeeze S64x2048 (hq b)) := fun f =>
    (Entails.of_eq (cut c m r hm hd hc fullShare f)).trans (bigSep_mono fun b _ => slot_any c m r hr hq f b)
  iintro ⟨%f, H⟩
  iapply (h1 f) $$ H
theorem slots_join {B : Type} [Fintype B] [DecidableEq B] {s : Shape} (c : Dev nD) (m : Memref sig .tc .vmem s .f32)
    (hm : m.view.set = Finset.univ) (r : B → Rect s) (hr : ∀ b a, (r b).stride a = 1) (hd : ∀ b b', b ≠ b' → Disjoint (r b).set (r b').set)
    (hc : ∀ i, ∃ b, i ∈ (r b).set) (hq : ∀ b, (r b).shape.Squeezes S64x2048) [Nonempty (Buf (Elt F) (m.view.loc (c : Thread nD τ)))] :
    (bigSep Finset.univ fun b => tileAny (F := F) c ((m.slice (r b) (hr b)).squeeze S64x2048 (hq b)))
      ⊢ (iprop(∃ f, m.view.loc (c : Thread nD τ) ↦{fullShare} f) : sProp 𝕄) := by
  have h1 : ∀ b, tileAny (F := F) c ((m.slice (r b) (hr b)).squeeze S64x2048 (hq b))
      ⊢ (iprop(∃ f, m.view.loc (c : Thread nD τ) ↦[piece m r b]{fullShare} f) : sProp 𝕄) := by
    intro b
    unfold tileAny tilePts
    iintro ⟨%T, %f, -, H⟩
    iexists f
    iapply (Entails.of_eq (?_ : (m.view.loc (c : Thread nD τ)
      ↦[((m.view.slice (r b)).reshape S64x2048 (hq b).numel_eq).set]{fullShare} f : sProp 𝕄) = _)) $$ H
    rw [View.set_reshape]; rfl
  refine (bigSep_mono fun b _ => h1 b).trans ?_
  refine (bigSep_exists_pi (Y := fun _ : B => Buf (Elt F) (m.view.loc (c : Thread nD τ))) _ _).trans ?_
  iintro ⟨%f, H⟩
  iapply (cut_join c m r hm hd hc fullShare f (Classical.choice inferInstance)) $$ H

/-! ## A family of sixteen, changed from one state to another in order -/

/-- The first `k` of sixteen in state `B`, the rest in state `A`. -/
def stage (A B : Fin 16 → sProp 𝕄) (k : ℕ) : sProp 𝕄 := bigSep Finset.univ fun j : Fin 16 => if j.val < k then B j else A j

theorem stage_zero (A B : Fin 16 → sProp 𝕄) : stage A B 0 = bigSep Finset.univ A :=
  bigSep_congr fun _ _ => if_neg (Nat.not_lt_zero _)
theorem stage_all (A B : Fin 16 → sProp 𝕄) : stage A B 16 = bigSep Finset.univ B :=
  bigSep_congr fun j _ => if_pos j.isLt

theorem stage_take (A B : Fin 16 → sProp 𝕄) (k : Fin 16) :
    stage A B k.val ⊢ iprop(A k ∗ (B k -∗ stage A B (k.val + 1))) := by
  unfold stage
  rw [bigSep_univ_split k, bigSep_univ_split k (Φ := fun j : Fin 16 => if j.val < k.val + 1 then B j else A j),
    if_neg (Nat.lt_irrefl _), if_pos (Nat.lt_succ_self _)]
  rw [bigSep_congr (s := Finset.univ.erase k) (Φ := fun j : Fin 16 => if j.val < k.val + 1 then B j else A j)
    (Ψ := fun j : Fin 16 => if j.val < k.val then B j else A j) (fun j hj => by
      have hne : j.val ≠ k.val := fun e => (Finset.ne_of_mem_erase hj) (Fin.ext e)
      by_cases h : j.val < k.val
      · rw [if_pos h, if_pos (by omega)]
      · rw [if_neg h, if_neg (by omega)])]
  refine (show iprop(A k ∗ bigSep (Finset.univ.erase k) fun j : Fin 16 => if j.val < k.val then B j else A j)
    ⊢ iprop(A k ∗ (B k -∗ (B k ∗ bigSep (Finset.univ.erase k) fun j : Fin 16 => if j.val < k.val then B j else A j))) from ?_)
  iintro ⟨HA, HR⟩
  isplitl [HA]; · iexact HA
  iintro HB
  isplitl [HB] <;> iassumption

end Cert.KernelIdeal.Fused
-- ==== Proof.KI.Schedule.lean ====
/-
  The protocol of the kernel: which semaphore each cell is, what is paid to it in which round, and what the payment hands
  over, with contents.

  Every cell but the barrier's is paid by one transfer a round. The barrier's cell is paid by the two neighbours, each of
  which hands over its landing slots. The send and the landing cells of a tile have one round; the cells of the double
  buffers have eight, round `r` of slot `s` being that of tile `2 r + s`.
-/
module

public import proofs.«01_k».proof.Proof.KI.Tiles

@[expose] public section

noncomputable section

namespace Cert.KernelIdeal.Fused

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

abbrev EP : Emb (UR sig nD τ) (MT nD τ sig Unit (Elt F) ℕ UU ℕ) := embL
abbrev ER : Emb (URounds (GSem nD τ sig) Bool) (MT nD τ sig Unit (Elt F) ℕ UU ℕ) := embR

abbrev 𝒱₀ : Variants := Variants.none

/-! ## The cells -/

/-- The kinds of cell: the barrier; the send and the landing of a partial tile; those of a finished tile; the loads of
    the two operands; the store of the own half; the store of the other half. -/
inductive Kind where
  | bar
  | ys (k : Fin 16)
  | yr (k : Fin 16)
  | xs (k : Fin 16)
  | xr (k : Fin 16)
  | pp (s : Fin 2)
  | rr (s : Fin 2)
  | oo (s : Fin 2)
  | xo (k : Fin 16)
  deriving DecidableEq

/-- The kinds as the sum of their families. -/
abbrev KindSum : Type :=
  Unit ⊕ Fin 16 ⊕ Fin 16 ⊕ Fin 16 ⊕ Fin 16 ⊕ Fin 2 ⊕ Fin 2 ⊕ Fin 2 ⊕ Fin 16

def kindEquiv : KindSum ≃ Kind where
  toFun
    | .inl _ => .bar
    | .inr (.inl k) => .ys k
    | .inr (.inr (.inl k)) => .yr k
    | .inr (.inr (.inr (.inl k))) => .xs k
    | .inr (.inr (.inr (.inr (.inl k)))) => .xr k
    | .inr (.inr (.inr (.inr (.inr (.inl s))))) => .pp s
    | .inr (.inr (.inr (.inr (.inr (.inr (.inl s)))))) => .rr s
    | .inr (.inr (.inr (.inr (.inr (.inr (.inr (.inl s))))))) => .oo s
    | .inr (.inr (.inr (.inr (.inr (.inr (.inr (.inr k))))))) => .xo k
  invFun
    | .bar => .inl ()
    | .ys k => .inr (.inl k)
    | .yr k => .inr (.inr (.inl k))
    | .xs k => .inr (.inr (.inr (.inl k)))
    | .xr k => .inr (.inr (.inr (.inr (.inl k))))
    | .pp s => .inr (.inr (.inr (.inr (.inr (.inl s)))))
    | .rr s => .inr (.inr (.inr (.inr (.inr (.inr (.inl s))))))
    | .oo s => .inr (.inr (.inr (.inr (.inr (.inr (.inr (.inl s)))))))
    | .xo k => .inr (.inr (.inr (.inr (.inr (.inr (.inr (.inr k)))))))
  left_inv x := by rcases x with _ | _ | _ | _ | _ | _ | _ | _ | _ <;> rfl
  right_inv κ := by cases κ <;> rfl

instance : Fintype Kind := Fintype.ofEquiv KindSum kindEquiv

/-- Every kind but the barrier's, as the sum of the families; what a device's own semaphores are. -/
abbrev OwnSum : Type := Fin 16 ⊕ Fin 16 ⊕ Fin 16 ⊕ Fin 16 ⊕ Fin 2 ⊕ Fin 2 ⊕ Fin 2 ⊕ Fin 16
abbrev ownKind (x : OwnSum) : Kind := kindEquiv (.inr x)

/-- The semaphore of a kind. -/
def semOf : Kind → SemLoc sig
  | .bar => .reg barS
  | .ys k => .dma (ysS k)
  | .yr k => .dma (yrS k)
  | .xs k => .dma (xsS k)
  | .xr k => .dma (xrS k)
  | .pp s => .dma (ppS s)
  | .rr s => .dma (rrS s)
  | .oo s => .dma (ooS s)
  | .xo k => .dma (xoS k)

theorem semOf_inj : Function.Injective semOf := by
  have h : ∀ κ κ' : Kind, semOf κ = semOf κ' → κ = κ' := by decide +kernel
  exact fun κ κ' => h κ κ'

/-- The kind a semaphore is of, if any. -/
def kindOf (x : SemLoc sig) : Option Kind := by
  classical exact if h : ∃ κ, semOf κ = x then some h.choose else none

theorem kindOf_semOf (κ : Kind) : kindOf (semOf κ) = some κ := by
  have h : ∃ κ', semOf κ' = semOf κ := ⟨κ, rfl⟩
  unfold kindOf
  rw [dif_pos h]
  exact congrArg some (semOf_inj h.choose_spec)

theorem semOf_of_kindOf {x : SemLoc sig} {κ : Kind} (h : kindOf x = some κ) : x = semOf κ := by
  unfold kindOf at h
  split at h
  · next h' => exact (h'.choose_spec.symm.trans (congrArg semOf (Option.some.inj h)))
  · cases h

abbrev cell (c : Dev nD) (κ : Kind) : GSem nD τ sig := ((c : Thread nD τ), semOf κ)

theorem cell_inj {c c' : Dev nD} {κ κ' : Kind} (h : cell c κ = cell c' κ') : c = c' ∧ κ = κ' :=
  ⟨congrArg (fun g : GSem nD τ sig => g.1.1) h, semOf_inj (congrArg Prod.snd h)⟩

/-! ## The neighbours -/

theorem devY_devY : ∀ c : Dev nD, devY (devY c) = c := by decide +kernel
theorem devX_devX : ∀ c : Dev nD, devX (devX c) = c := by decide +kernel
theorem devX_ne_devY : ∀ c : Dev nD, devX c ≠ devY c := by decide +kernel

/-! ## What the tiles hold -/

/-- What the kernel is entered with, on every device: the partial rows, the residual and the scale. -/
structure Inputs (F : FTy → Type) where
  p : Dev nD → Vec F S2048x2048 .f32
  r : Dev nD → Vec F S2048x2048 .f32
  g : Dev nD → Vec F S1x2048 .f32

variable (A : Inputs F)

/-- Device `c`'s own tile `k` of its partial rows, and of the residual. -/
def Inputs.pT (c : Dev nD) (k : Fin 16) : Tile F := (ownRows pA c k).view.read (Elt F) (A.p c)
def Inputs.rT (c : Dev nD) (k : Fin 16) : Tile F := (ownRows rA c k).view.read (Elt F) (A.r c)

/-- What device `c` computes for tile `k` from its own partial tile, its column neighbour's and the residual's. -/
def Inputs.oT (c : Dev nD) (k : Fin 16) : Tile F :=
  tileNorm (addf (addf (A.pT c k) (A.pT (devY c) k)) (A.rT c k)) (A.g c)

/-! ## The rounds -/

/-- The units of one tile's transfer. -/
abbrev N : ℕ := (ownRows pA 0 0).view.dmaCredit
theorem N_pos : 0 < N := View.dmaCredit_pos _ (by decide)

/-- The tile of round `r` of slot `s`. -/
def tileOf (r : ℕ) (s : Fin 2) : Fin 16 := ⟨(2 * r + s.val) % 16, Nat.mod_lt _ (by decide)⟩
theorem tileOf_par : ∀ k : Fin 16, tileOf (k.val / 2) (par k) = k := by decide

def roundsOf : Kind → ℕ
  | .pp _ | .rr _ | .oo _ => 8
  | _ => 1

def dutiesOf : Kind → ℕ → Finset Bool
  | .bar, r => if r = 0 then Finset.univ else ∅
  | κ, r => if r < roundsOf κ then {false} else ∅

def amountOf : Kind → ℕ
  | .bar => 1
  | _ => N

/-- The slots a device hands over at the barrier, all of one buffer, with the fact that the cells they land on are open. -/
def giveSlots (e : Dev nD) (M : Fin 16 → Memref sig .tc .vmem S64x2048 .f32) (κ : Fin 16 → Kind) : sProp 𝕄 :=
  iprop((bigSep Finset.univ fun k => tileAny e (M k)) ∗ bigSep Finset.univ fun k => reached ER (cell e (κ k)) 0)

def payOf (c : Dev nD) : Kind → ℕ → Bool → sProp 𝕄
  | .bar, _, false => giveSlots (devY c) (slot16 yB) .yr
  | .bar, _, true => giveSlots (devX c) (slot16 xB) .xr
  | .ys k, _, _ => tilePts c (ownRows pA c k) fullShare.left (A.pT c k)
  | .yr k, _, _ => tilePts c (slot16 yB k) fullShare (A.pT (devY c) k)
  | .xs k, _, _ => tilePts c (slot2 oB (par k)) fullShare.left (A.oT c k)
  | .xr k, _, _ => tilePts c (slot16 xB k) fullShare (A.oT (devX c) k)
  | .pp s, r, _ => iprop(tilePts c (slot2 pB s) fullShare (A.pT c (tileOf r s))
      ∗ tilePts c (ownRows pA c (tileOf r s)) fullShare.right (A.pT c (tileOf r s)))
  | .rr s, r, _ => iprop(tilePts c (slot2 rB s) fullShare (A.rT c (tileOf r s))
      ∗ tilePts c (ownRows rA c (tileOf r s)) fullShare (A.rT c (tileOf r s)))
  | .oo s, r, _ => iprop(tilePts c (ownRows oA c (tileOf r s)) fullShare (A.oT c (tileOf r s))
      ∗ tilePts c (slot2 oB s) fullShare.right (A.oT c (tileOf r s)))
  | .xo k, _, _ => iprop(tilePts c (otherRows oA c k) fullShare (A.oT (devX c) k)
      ∗ tilePts c (slot16 xB k) fullShare (A.oT (devX c) k))

instance giveSlots_storable (e : Dev nD) (M : Fin 16 → Memref sig .tc .vmem S64x2048 .f32) (κ : Fin 16 → Kind) :
    BI.Storable (upEmb : UEmb _ 𝕄) (giveSlots (F := F) e M κ) := by
  unfold giveSlots; infer_instance

instance payOf_storable (c : Dev nD) (κ : Kind) (r : ℕ) (d : Bool) :
    BI.Storable (upEmb : UEmb _ 𝕄) (payOf A c κ r d) := by
  cases κ <;> cases d <;> (unfold payOf; infer_instance)

/-- The schedule. -/
def talkRd : Rounds.Schedule (GSem nD τ sig) Bool 𝕄 where
  duties g r := if g.1.2 = .tc then (match kindOf g.2 with | some κ => dutiesOf κ r | none => ∅) else ∅
  amount g _ _ := match kindOf g.2 with | some κ => amountOf κ | none => 1
  payload g r d := match kindOf g.2 with | some κ => payOf A g.1.1 κ r d | none => iprop(emp)
  amount_pos g _ _ _ := by
    cases kindOf g.2 with
    | none => exact Nat.one_pos
    | some κ => cases κ <;> first | exact Nat.one_pos | exact N_pos

instance talkRd_storable (g : GSem nD τ sig) (r : ℕ) (d : Bool) :
    BI.Storable (upEmb : UEmb _ 𝕄) ((talkRd A).payload g r d) := by
  show BI.Storable upEmb (match kindOf g.2 with | some κ => payOf A g.1.1 κ r d | none => iprop(emp))
  cases kindOf g.2 <;> infer_instance

theorem duties_cell (c : Dev nD) (κ : Kind) (r : ℕ) : (talkRd A).duties (cell c κ) r = dutiesOf κ r := by
  dsimp only [talkRd]; rw [if_pos rfl, kindOf_semOf]
theorem amount_cell (c : Dev nD) (κ : Kind) (r : ℕ) (d : Bool) : (talkRd A).amount (cell c κ) r d = amountOf κ := by
  dsimp only [talkRd]; rw [kindOf_semOf]
theorem payload_cell (c : Dev nD) (κ : Kind) (r : ℕ) (d : Bool) : (talkRd A).payload (cell c κ) r d = payOf A c κ r d := by
  dsimp only [talkRd]; rw [kindOf_semOf]

theorem dutiesOf_bar : dutiesOf .bar 0 = Finset.univ := rfl
theorem dutiesOf_lt {κ : Kind} (hκ : κ ≠ .bar) {r : ℕ} (hr : r < roundsOf κ) : dutiesOf κ r = {false} := by
  cases κ <;> first | exact absurd rfl hκ | exact if_pos hr
theorem dutiesOf_later (κ : Kind) {r : ℕ} (hr : roundsOf κ ≤ r) : dutiesOf κ r = ∅ := by
  cases κ <;> first | exact if_neg (Nat.not_lt.mpr hr) | exact if_neg (fun h => by subst h; exact absurd hr (by decide))
theorem amountOf_ne {κ : Kind} (hκ : κ ≠ .bar) : amountOf κ = N := by
  cases κ <;> first | exact absurd rfl hκ | rfl

theorem expect_cell (c : Dev nD) {κ : Kind} (hκ : κ ≠ .bar) {r : ℕ} (hr : r < roundsOf κ) : (talkRd A).expect (cell c κ) r = N := by
  unfold Schedule.expect Schedule.amountOf
  rw [duties_cell, dutiesOf_lt hκ hr, Finset.sum_singleton, amount_cell, amountOf_ne hκ]
theorem expect_bar (c : Dev nD) : (talkRd A).expect (cell c .bar) 0 = 2 := by
  unfold Schedule.expect Schedule.amountOf
  rw [duties_cell, dutiesOf_bar]
  simp only [amount_cell]
  rfl

theorem rest_cell (c : Dev nD) {κ : Kind} (hκ : κ ≠ .bar) {r : ℕ} (hr : r < roundsOf κ) :
    bigSep ((talkRd A).duties (cell c κ) r \ ∅) (fun d => (talkRd A).payload (cell c κ) r d) = payOf A c κ r false := by
  rw [Finset.sdiff_empty, duties_cell, dutiesOf_lt hκ hr, bigSep_singleton, payload_cell]
theorem rest_bar (c : Dev nD) :
    bigSep ((talkRd A).duties (cell c .bar) 0 \ ∅) (fun d => (talkRd A).payload (cell c .bar) 0 d)
      = iprop(giveSlots (devY c) (slot16 yB) .yr ∗ giveSlots (devX c) (slot16 xB) .xr) := by
  have h : (Finset.univ : Finset Bool) = insert false {true} := by decide
  rw [Finset.sdiff_empty, duties_cell, dutiesOf_bar, h, bigSep_insert (by decide), bigSep_singleton, payload_cell, payload_cell]
  rfl

/-! ## Levels and debts -/

def lvOf : Kind → ℕ
  | .bar => 1
  | .yr _ => 2
  | .xr _ => 3
  | _ => 0

def L (g : GSem nD τ sig) : Finset Unit := if g.1.2 = .tc then {()} else ∅
def lv (g : GSem nD τ sig) (_ : Unit) : ℕ := match kindOf g.2 with | some κ => lvOf κ | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (κ : Kind) : lv (cell c κ) () = lvOf κ := by unfold lv; rw [kindOf_semOf]

/-- What a device still owes its column neighbour's landing cells from tile `k` on, and its row neighbour's. -/
def oweY (c : Dev nD) (k : ℕ) : CellTallies nD τ sig Unit :=
  ∑ j ∈ Finset.univ.filter (fun j : Fin 16 => k ≤ j.val), tallyAt (cell (devY c) (.yr j)) () N
def oweX (c : Dev nD) (k : ℕ) : CellTallies nD τ sig Unit :=
  ∑ j ∈ Finset.univ.filter (fun j : Fin 16 => k ≤ j.val), tallyAt (cell (devX c) (.xr j)) () N

theorem from_succ (k : Fin 16) : Finset.univ.filter (fun j : Fin 16 => k.val ≤ j.val)
    = insert k (Finset.univ.filter fun j : Fin 16 => k.val + 1 ≤ j.val) := by
  revert k; decide
theorem from_end : Finset.univ.filter (fun j : Fin 16 => 16 ≤ j.val) = ∅ := by decide

theorem oweY_step (c : Dev nD) (k : Fin 16) :
    oweY c k.val = oweY c (k.val + 1) + tallyAt (cell (devY c) (.yr k)) () N := by
  unfold oweY
  rw [from_succ, Finset.sum_insert (a := k) (fun h => absurd (Finset.mem_filter.mp h).2 (Nat.not_succ_le_self k.val)), add_comm]
theorem oweX_step (c : Dev nD) (k : Fin 16) :
    oweX c k.val = oweX c (k.val + 1) + tallyAt (cell (devX c) (.xr k)) () N := by
  unfold oweX
  rw [from_succ, Finset.sum_insert (a := k) (fun h => absurd (Finset.mem_filter.mp h).2 (Nat.not_succ_le_self k.val)), add_comm]
theorem oweY_end (c : Dev nD) : oweY c 16 = 0 := by unfold oweY; rw [from_end, Finset.sum_empty]
theorem oweX_end (c : Dev nD) : oweX c 16 = 0 := by unfold oweX; rw [from_end, Finset.sum_empty]

/-- A sum of debts is positive only towards one of its cells. -/
theorem sum_pos {B : Type} [DecidableEq B] (S : Finset B) (t : B → CellTallies nD τ sig Unit) (g : GSem nD τ sig) (u : Unit)
    (h : 0 < (∑ j ∈ S, t j) g u) : ∃ j ∈ S, 0 < t j g u := by
  induction S using Finset.induction_on with
  | empty => rw [Finset.sum_empty] at h; exact absurd h (Nat.lt_irrefl 0)
  | insert j S hj ih =>
    rw [Finset.sum_insert hj, Pi.add_apply, Finsupp.add_apply] at h
    rcases Nat.add_pos_iff_pos_or_pos.mp h with h | h
    · exact ⟨j, Finset.mem_insert_self _ _, h⟩
    · obtain ⟨j', hj', hp⟩ := ih h
      exact ⟨j', Finset.mem_insert_of_mem hj', hp⟩

theorem tallyAt_pos {g g' : GSem nD τ sig} {n : ℕ} {u : Unit} (h : 0 < tallyAt g () n g' u) : g' = g := by
  rw [tallyAt_apply] at h
  by_contra hne
  rw [if_neg (fun e => hne e.1)] at h
  exact absurd h (Nat.lt_irrefl 0)

theorem oweY_pos {c : Dev nD} {k : ℕ} {g : GSem nD τ sig} {u : Unit} (h : 0 < oweY c k g u) : ∃ j, g = cell (devY c) (.yr j) := by
  obtain ⟨j, -, hj⟩ := sum_pos _ _ g u h
  exact ⟨j, tallyAt_pos hj⟩
theorem oweX_pos {c : Dev nD} {k : ℕ} {g : GSem nD τ sig} {u : Unit} (h : 0 < oweX c k g u) : ∃ j, g = cell (devX c) (.xr j) := by
  obtain ⟨j, -, hj⟩ := sum_pos _ _ g u h
  exact ⟨j, tallyAt_pos hj⟩

/-- Everything a device owes at launch. -/
def O₀ (c : Dev nD) : CellTallies nD τ sig Unit :=
  oweY c 0 + oweX c 0 + tallyAt (cell (devX c) .bar) () 1 + tallyAt (cell (devY c) .bar) () 1

/-- A debt all of whose cells lie above level `b`. -/
def Above (b : ℕ) (O : CellTallies nD τ sig Unit) : Prop := ∀ g u, 0 < O g u → ∃ e κ, g = cell e κ ∧ b < lvOf κ

theorem Above.zero (b : ℕ) : Above b 0 := fun _ _ h => absurd h (Nat.lt_irrefl 0)
theorem Above.add {b : ℕ} {O O' : CellTallies nD τ sig Unit} (h : Above b O) (h' : Above b O') : Above b (O + O') := fun g u hp => by
  rw [Pi.add_apply, Finsupp.add_apply] at hp
  rcases Nat.add_pos_iff_pos_or_pos.mp hp with hp | hp
  · exact h g u hp
  · exact h' g u hp
theorem Above.tally {b : ℕ} (e : Dev nD) (κ : Kind) (n : ℕ) (hb : b < lvOf κ) : Above b (tallyAt (cell e κ) () n) :=
  fun _ _ hp => ⟨e, κ, tallyAt_pos hp, hb⟩
theorem Above.oweY {b : ℕ} (c : Dev nD) (k : ℕ) (hb : b < 2) : Above b (oweY c k) := fun _ _ hp => by
  obtain ⟨j, hj⟩ := oweY_pos hp; exact ⟨_, _, hj, hb⟩
theorem Above.oweX {b : ℕ} (c : Dev nD) (k : ℕ) (hb : b < 3) : Above b (oweX c k) := fun _ _ hp => by
  obtain ⟨j, hj⟩ := oweX_pos hp; exact ⟨_, _, hj, hb⟩

theorem Above.mayWait {O : CellTallies nD τ sig Unit} (c : Dev nD) (κ : Kind) (h : Above (lvOf κ) O) :
    (levAts L lv : sProp 𝕄) ⊢ MayWait (c : Thread nD τ) (semOf κ) () O :=
  MayOwe.of_cut (L := L) (lev := lv) (lvOf κ)
    (fun p hp => by rw [Finset.mem_singleton.mp hp, L_tc]; exact Finset.mem_singleton_self _)
    (fun g u hg => by obtain ⟨e, κ', rfl, -⟩ := h g u hg; rw [L_tc]; exact Finset.mem_singleton_self _)
    (fun p hp => by rw [Finset.mem_singleton.mp hp]; exact le_of_eq (lv_cell c κ))
    (fun g u hg => by obtain ⟨e, κ', rfl, hb⟩ := h g u hg; exact lt_of_lt_of_eq hb (lv_cell e κ').symm)

end Cert.KernelIdeal.Fused
-- ==== Proof.KI.Rules.lean ====
/-
  One rule for each step of the body: what the step takes from the device and what it gives back.

  The four general rules (a wait, a copy on the device, a copy to a neighbour, a signal) are the protocol's rules at this
  schedule. A step's own rule names the tile and the cells the step works on.
-/
module

public import proofs.«01_k».proof.Proof.KI.Schedule

@[expose] public section

noncomputable section

namespace Cert.KernelIdeal.Fused

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (A : Inputs F) (ns : GSem nD τ sig → ℕ) (c : Dev nD)

/-- What is known throughout: every cell's invariant, at the names `ns`, and the levels. -/
def env : sProp 𝕄 :=
  iprop((bigSep Finset.univ fun x : Dev nD × Kind => cellInv ER (talkRd A) (ns (cell x.1 x.2)) (cell x.1 x.2)) ∗ levAts L lv)

instance env_persistent : BI.Persistent (env A ns) := by unfold env; infer_instance

theorem env_inv (e : Dev nD) (κ : Kind) : env A ns ⊢ cellInv ER (talkRd A) (ns (cell e κ)) (cell e κ) := by
  have h : (bigSep Finset.univ fun x : Dev nD × Kind => cellInv ER (talkRd A) (ns (cell x.1 x.2)) (cell x.1 x.2))
      ⊢ cellInv ER (talkRd A) (ns (cell e κ)) (cell e κ) :=
    bigSep_elim (Φ := fun x : Dev nD × Kind => cellInv ER (talkRd A) (ns (cell x.1 x.2)) (cell x.1 x.2))
      (Finset.mem_univ (e, κ))
  unfold env
  iintro ⟨H, -⟩
  iapply h $$ H
theorem env_lev : env A ns ⊢ (levAts L lv : sProp 𝕄) := by
  unfold env
  iintro ⟨-, H⟩; iexact H

/-- The device runs `K` to the end of its body. -/
abbrev run (K : TcProg F) (Q : PUnit → sProp 𝕄) : sProp 𝕄 :=
  wp frame (wpE (defs₀ (F := F)) 𝒱₀ (c : Thread nD τ) none) Set.univ K Q

/-- The device owes `O`. -/
def owesAny (O : CellTallies nD τ sig Unit) : sProp 𝕄 := iprop(∃ W, owes (c : Thread nD τ) O W)
/-- The device stands at round `r` of its cell, nothing of it taken. -/
def atR (κ : Kind) (r : ℕ) : sProp 𝕄 := iprop(atPos ER (cell c κ) r ∅ 0 ∗ reached ER (cell c κ) r)
/-- The right to wait for one tile on a cell. -/
abbrev due (κ : Kind) : sProp 𝕄 := cred (tallyAt (cell c κ) () N)
/-- The right to pay a cell's one round, which is open. -/
def tok1 (e : Dev nD) (κ : Kind) : sProp 𝕄 := iprop(dutyTok ER (cell e κ) 0 false ∗ reached ER (cell e κ) 0)
/-- The right to pay round `r` of an own cell. -/
abbrev tokR (κ : Kind) (r : ℕ) : sProp 𝕄 := dutyTok ER (cell c κ) r false

/-! ## The general rules -/

theorem wait_rule {κ : Kind} (hκ : κ ≠ .bar) {r : ℕ} (hr : r < roundsOf κ) {w : TpuEff nD τ sig (Elt F) Λ₀ .tc PUnit}
    (hw : ∀ K : PUnit → sProp 𝕄, wpE (defs₀ (F := F)) 𝒱₀ (c : Thread nD τ) none Set.univ w K
      = waitSpec (c : Thread nD τ) Set.univ (semOf κ) N K)
    {O : CellTallies nD τ sig Unit} (hO : Above (lvOf κ) O) (K : TcProg F) (Q : PUnit → sProp 𝕄) :
    env A ns ⊢ iprop((due c κ ∗ owesAny c O ∗ atR c κ r)
      -∗ ((owesAny c O ∗ atR c κ (r + 1) ∗ payOf A c κ r false) -∗ run c K Q) -∗ run c (.op w fun _ => K) Q) := by
  unfold owesAny atR
  iintro #He ⟨Hc, ⟨%W, HO⟩, Hat, -⟩ Hk
  ihave #Hi := (env_inv A ns c κ) $$ He
  ihave #Hl := (env_lev A ns) $$ He
  iapply (Rounds.wp_wait_rest_token 𝒱₀ ER (talkRd A) (c : Thread nD τ) none (κ := ns (cell c κ)) hw (Set.mem_univ _) ()
      (O := O) (W := W) (R := r) (m := 0) (T := ∅) ((Nat.zero_add N).trans (expect_cell A c hκ hr).symm)) $$ [Hc HO Hat]
  · isplitr; · iexact Hi
    isplitl [Hc]; · iexact Hc
    isplitl [HO]; · iexact HO
    isplitr; · iapply (hO.mayWait c κ); iexact Hl
    iexact Hat
  iintro ⟨HO, Hat, #Hr, Hpay⟩
  ihave Hp := (Entails.of_eq (rest_cell A c hκ hr)) $$ Hpay
  iapply Hk
  isplitl [HO]; · iexists _; iexact HO
  isplitl [Hat]
  · isplitl [Hat]; · iexact Hat
    iexact Hr
  iexact Hp

theorem copy_rule {sp sp' : Space} {src : Memref sig .tc sp S64x2048 .f32} {dst : Memref sig .tc sp' S64x2048 .f32}
    {h₁ : src.view.WordExact} {h₂ : dst.view.WordExact} {κ : Kind} {h₃ : DmaTarget.Typed (nD := nD) sp (semOf κ) (DmaTarget.here (nD := nD) (τ := τ) (p := .tc) dst)}
    (hκ : κ ≠ .bar) {r : ℕ} (hr : r < roundsOf κ) {q : PosShare TreeShare} {T : Tile F}
    (hN : dst.view.amount (semOf κ) = N)
    (hpay : payOf A c κ r false = iprop(tilePts c dst fullShare T ∗ tilePts c src q T)) (K : TcProg F) (Q : PUnit → sProp 𝕄) :
    env A ns ⊢ iprop((tilePts c src q T ∗ tileAny c dst ∗ tokR c κ r ∗ reached ER (cell c κ) r)
      -∗ (due c κ -∗ run c K Q) -∗ run c (.op (.enqueueDma src (.here dst) (semOf κ) h₁ h₂ h₃) fun _ => K) Q) := by
  iintro #He ⟨Hs, Hd, Ht, Hr⟩ Hk
  ihave #Hi := (env_inv A ns c κ) $$ He
  unfold tileAny
  icases Hd with ⟨%T', Hd⟩
  unfold tilePts
  icases Hs with ⟨%fs, %hfs, Hs⟩
  icases Hd with ⟨%fd, -, Hd⟩
  iapply (Rounds.wp_copy_pointsTo 𝒱₀ ER (talkRd A) (c : Thread nD τ) none (src := src) (dst := dst) (sem := semOf κ) (q := q)
      (fs := fs) (fd := fd) (r := r) (d := false) (κ := ns (cell c κ))
      (by rw [duties_cell, dutiesOf_lt hκ hr]; exact Finset.mem_singleton_self _) () N hN
      (by rw [amount_cell, amountOf_ne hκ])
      (by
        rw [payload_cell, hpay]
        unfold tilePts
        iintro ⟨H1, H2⟩
        isplitl [H1]
        · iexists (dst.view.write (Elt F) fd (src.view.read (Elt F) fs) Finset.univ); isplitr
          · ipureintro; exact (View.read_write_univ fd _).trans hfs
          · iexact H1
        · iexists _; isplitr
          · ipureintro; exact hfs
          · iexact H2)) $$ [Hs Hd Ht Hr]
  · isplitr; · iexact Hi
    isplitl [Hs]; · iexact Hs
    isplitl [Hd]; · iexact Hd
    isplitl [Ht]; · iexact Ht
    iexact Hr
  iexact Hk

theorem send_rule {sp sp' : Space} {e : Dev nD} {src : Memref sig .tc sp S64x2048 .f32} {dst : Memref sig .tc sp' S64x2048 .f32}
    {h₀ : dst.view.ref.isScScratch = false}
    {h₁ : src.view.WordExact} {h₂ : dst.view.WordExact} {κ κ' : Kind}
    {h₃ : DmaTarget.Typed (nD := nD) sp (semOf κ') (.remote (Dev.tc e) dst (semOf κ) h₀)}
    (hκ : κ ≠ .bar) (hκ' : κ' ≠ .bar) (hr : 0 < roundsOf κ) (hr' : 0 < roundsOf κ') {q : PosShare TreeShare} {T : Tile F}
    (hN : dst.view.amount (semOf κ') = N) {O₁ O : CellTallies nD τ sig Unit} (hO : O₁ = O + tallyAt (cell e κ') () N)
    (hpay : payOf A c κ 0 false = tilePts c src q T) (hpay' : payOf A e κ' 0 false = tilePts e dst fullShare T) (K : TcProg F) (Q : PUnit → sProp 𝕄) :
    env A ns ⊢ iprop((tilePts c src q T ∗ tileAny e dst ∗ tok1 c κ ∗ tok1 e κ' ∗ owesAny c O₁)
      -∗ ((due c κ ∗ owesAny c O) -∗ run c K Q)
      -∗ run c (.op (.enqueueDma src (.remote (Dev.tc e) dst (semOf κ) h₀) (semOf κ') h₁ h₂ h₃) fun _ => K) Q) := by
  unfold tok1 owesAny
  iintro #He ⟨Hs, Hd, ⟨Ht, Hr⟩, ⟨Ht', Hr'⟩, ⟨%W, HO⟩⟩ Hk
  ihave #Hi := (env_inv A ns c κ) $$ He
  ihave #Hi' := (env_inv A ns e κ') $$ He
  unfold tileAny
  icases Hd with ⟨%T', Hd⟩
  unfold tilePts
  icases Hs with ⟨%fs, %hfs, Hs⟩
  icases Hd with ⟨%fd, -, Hd⟩
  iapply (Rounds.wp_send_pointsTo 𝒱₀ ER (talkRd A) (c : Thread nD τ) none (c' := (e : Thread nD τ)) (src := src) (dst := dst)
      (sS := semOf κ) (sem := semOf κ') (q := q) (fs := fs) (fd := fd) (κ₁ := ns (cell c κ)) (κ₂ := ns (cell e κ'))
      (r₁ := 0) (r₂ := 0) (d₁ := false) (d₂ := false)
      (by rw [duties_cell, dutiesOf_lt hκ hr]; exact Finset.mem_singleton_self _)
      (by rw [duties_cell, dutiesOf_lt hκ' hr']; exact Finset.mem_singleton_self _)
      () () N hN (by rw [amount_cell, amountOf_ne hκ]) (by rw [amount_cell, amountOf_ne hκ']) O hO (W := W)
      (by
        rw [payload_cell, hpay]
        unfold tilePts
        iintro H
        iexists _; isplitr
        · ipureintro; exact hfs
        · iexact H)
      (by
        rw [payload_cell, hpay']
        unfold tilePts
        iintro H
        iexists (dst.view.write (Elt F) fd (src.view.read (Elt F) fs) Finset.univ); isplitr
        · ipureintro; exact (View.read_write_univ fd _).trans hfs
        · iexact H)) $$ [Hs Hd HO Ht Hr Ht' Hr']
  · isplitr; · iexact Hi
    isplitr; · iexact Hi'
    isplitl [Hs]; · iexact Hs
    isplitl [Hd]; · iexact Hd
    isplitl [HO]; · iexact HO
    isplitl [Ht]; · iexact Ht
    isplitl [Hr]; · iexact Hr
    isplitl [Ht']; · iexact Ht'
    iexact Hr'
  iintro ⟨Hc, HO⟩
  iapply Hk
  isplitl [Hc]; · iexact Hc
  iexists W; iexact HO

theorem signal_rule (e : Dev nD) (d : Bool) {O₁ O : CellTallies nD τ sig Unit} (hO : O₁ = O + tallyAt (cell e .bar) () 1) (K : TcProg F) (Q : PUnit → sProp 𝕄) :
    env A ns ⊢ iprop((owesAny c O₁ ∗ dutyTok ER (cell e .bar) 0 d ∗ payOf A e .bar 0 d ∗ reached ER (cell e .bar) 0)
      -∗ (owesAny c O -∗ run c K Q) -∗ run c (signalTo e K) Q) := by
  unfold owesAny
  iintro #He ⟨⟨%W, HO⟩, Ht, Hp, Hr⟩ Hk
  ihave #Hi := (env_inv A ns e .bar) $$ He
  have hp : payOf A e .bar 0 d ⊢ (talkRd A).payload ((e : Thread nD τ), .reg barS) 0 d :=
    Entails.of_eq (payload_cell A e .bar 0 d).symm
  unfold signalTo
  iapply (Rounds.wp_signal 𝒱₀ ER (talkRd A) (c : Thread nD τ) none (dst := (e : Thread nD τ)) (sem := barS) (r := 0) (d := d)
      (κ := ns (cell e .bar)) (k' := 1)
      ((duties_cell A e .bar 0).symm ▸ Finset.mem_univ d) (amount_cell A e .bar 0 d) () O hO (W := W)) $$ [HO Ht Hp Hr]
  · isplitr; · iexact Hi
    isplitl [HO]; · iexact HO
    isplitl [Ht]; · iexact Ht
    isplitl [Hp]; · iapply hp; iexact Hp
    iexact Hr
  iintro HO
  iapply Hk
  iexists W; iexact HO

theorem waitBar_rule {O : CellTallies nD τ sig Unit} (hO : Above 1 O) (K : TcProg F) (Q : PUnit → sProp 𝕄) :
    env A ns ⊢ iprop((cred (tallyAt (cell c .bar) () 2) ∗ owesAny c O ∗ atPos ER (cell c .bar) 0 ∅ 0)
      -∗ ((owesAny c O ∗ atPos ER (cell c .bar) 1 ∅ 0
          ∗ giveSlots (devY c) (slot16 yB) .yr ∗ giveSlots (devX c) (slot16 xB) .xr) -∗ run c K Q)
      -∗ run c (waitBar K) Q) := by
  unfold owesAny
  iintro #He ⟨Hc, ⟨%W, HO⟩, Hat⟩ Hk
  ihave #Hi := (env_inv A ns c .bar) $$ He
  ihave #Hl := (env_lev A ns) $$ He
  have hp : (bigSep ((talkRd A).duties ((c : Thread nD τ), .reg barS) 0 \ ∅) fun d => (talkRd A).payload ((c : Thread nD τ), .reg barS) 0 d)
      ⊢ iprop(giveSlots (devY c) (slot16 yB) .yr ∗ giveSlots (devX c) (slot16 xB) .xr) := Entails.of_eq (rest_bar A c)
  unfold waitBar
  iapply (Rounds.wp_wait_rest_token 𝒱₀ ER (talkRd A) (c : Thread nD τ) none (κ := ns (cell c .bar))
      (wpE_semWait_eq 𝒱₀ (c : Thread nD τ) none Set.univ) (Set.mem_univ _) ()
      (O := O) (W := W) (R := 0) (m := 0) (T := ∅) ((Nat.zero_add 2).trans (expect_bar A c).symm)) $$ [Hc HO Hat]
  · isplitr; · iexact Hi
    isplitl [Hc]; · iexact Hc
    isplitl [HO]; · iexact HO
    isplitr; · iapply (Above.mayWait c .bar hO); iexact Hl
    iexact Hat
  iintro ⟨HO, Hat, -, Hpay⟩
  ihave Hp := hp $$ Hpay
  iapply Hk
  isplitl [HO]; · iexists _; iexact HO
  isplitl [Hat]; · iexact Hat
  iexact Hp

end Cert.KernelIdeal.Fused
-- ==== Proof.KI.StepRules.lean ====
/-
  What every step of the body takes from the device and what it gives back.

  `does P f R`: from `P` the step `f` runs and leaves `R`, whatever program comes after it. Steps compose, keep what they
  do not touch, and a loop of sixteen of them keeps an invariant.
-/
module

public import proofs.«01_k».proof.Proof.KI.Rules

@[expose] public section

noncomputable section

namespace Cert.KernelIdeal.Fused

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (A : Inputs F) (ns : GSem nD τ sig → ℕ) (c : Dev nD)

/-! ## Steps -/

/-- From `P` the step `f` runs on device `c` and leaves `R`. -/
def does (P : sProp 𝕄) (f : TcProg F → TcProg F) (R : sProp 𝕄) : Prop :=
  ∀ (K : TcProg F) (Q : PUnit → sProp 𝕄), env A ns ⊢ iprop(P -∗ (R -∗ run c K Q) -∗ run c (f K) Q)

variable {A ns c}

theorem does.seq {P R S : sProp 𝕄} {f g : TcProg F → TcProg F} (h : does A ns c P f R) (h' : does A ns c R g S) :
    does A ns c P (fun K => f (g K)) S := fun K Q => by
  iintro #He HP Hk
  iapply (h (g K) Q) $$ He HP
  iintro HR
  iapply (h' K Q) $$ He HR Hk

theorem does.weaken {P P' R R' : sProp 𝕄} {f : TcProg F → TcProg F} (hP : P' ⊢ P) (hR : R ⊢ R') (h : does A ns c P f R) :
    does A ns c P' f R' := fun K Q => by
  iintro #He HP Hk
  ihave HP' := hP $$ HP
  iapply (h K Q) $$ He HP'
  iintro HR
  iapply Hk
  iapply hR $$ HR

theorem does.keep {P R : sProp 𝕄} {f : TcProg F → TcProg F} (X : sProp 𝕄) (h : does A ns c P f R) :
    does A ns c iprop(P ∗ X) f iprop(R ∗ X) := fun K Q => by
  iintro #He ⟨HP, HX⟩ Hk
  iapply (h K Q) $$ He HP
  iintro HR
  iapply Hk
  isplitl [HR] <;> iassumption

theorem does.nothing {P R : sProp 𝕄} (h : P ⊢ R) : does A ns c P (fun K => K) R := fun K Q => by
  iintro - HP Hk
  iapply Hk
  iapply h $$ HP

/-- A loop of steps from tile `k` on. -/
theorem does.steps_from {f : Fin 16 → TcProg F → TcProg F} {I : ℕ → sProp 𝕄}
    (h : ∀ k : Fin 16, does A ns c (I k.val) (f k) (I (k.val + 1))) :
    ∀ n k, k + n = 16 → does A ns c (I k) (steps f k n) (I 16)
  | 0, k, hk => by obtain rfl : k = 16 := hk; exact does.nothing (Entails.of_eq rfl)
  | n + 1, k, hk => by
    have hlt : k < 16 := by omega
    have h1 := (h ⟨k, hlt⟩).seq (does.steps_from h n (k + 1) (by omega))
    have h2 : steps f k (n + 1) = fun K => f ⟨k, hlt⟩ (steps f (k + 1) n K) := funext fun K => by
      rw [steps, dif_pos hlt]
    rw [h2]
    exact h1

/-- A loop of sixteen steps keeps an invariant. -/
theorem does.loop {f : Fin 16 → TcProg F → TcProg F} {I : ℕ → sProp 𝕄}
    (h : ∀ k : Fin 16, does A ns c (I k.val) (f k) (I (k.val + 1))) : does A ns c (I 0) (steps f 0 16) (I 16) :=
  does.steps_from h 16 0 rfl

/-- A loop whose steps each take one member of a family from one state to another. -/
theorem does.family {f : Fin 16 → TcProg F → TcProg F} {B B' : Fin 16 → sProp 𝕄} {O : ℕ → sProp 𝕄}
    (h : ∀ k : Fin 16, does A ns c iprop(B k ∗ O k.val) (f k) iprop(B' k ∗ O (k.val + 1))) :
    does A ns c iprop(bigSep Finset.univ B ∗ O 0) (steps f 0 16) iprop(bigSep Finset.univ B' ∗ O 16) := by
  have h1 := does.loop (A := A) (ns := ns) (c := c) (f := f) (I := fun n => iprop(stage B B' n ∗ O n)) fun k K Q => by
    have ht := stage_take B B' k
    iintro #He ⟨HS, HO⟩ Hk
    ihave Hs := ht $$ HS
    icases Hs with ⟨HB, Hback⟩
    iapply (h k K Q) $$ He [HB HO]
    · isplitl [HB] <;> iassumption
    iintro ⟨HB, HO⟩
    iapply Hk
    isplitl [HB Hback]
    · iapply Hback $$ HB
    · iexact HO
  rwa [stage_zero, stage_all] at h1

variable (A ns c)

/-! ## The payments of the cells -/

theorem payOf_yr (k : Fin 16) : payOf A (devY c) (.yr k) 0 false = tilePts (devY c) (slot16 yB k) fullShare (A.pT c k) := by
  show tilePts (devY c) (slot16 yB k) fullShare (A.pT (devY (devY c)) k) = _
  rw [devY_devY]
theorem payOf_xr (k : Fin 16) : payOf A (devX c) (.xr k) 0 false = tilePts (devX c) (slot16 xB k) fullShare (A.oT c k) := by
  show tilePts (devX c) (slot16 xB k) fullShare (A.oT (devX (devX c)) k) = _
  rw [devX_devX]
theorem payOf_pp (k : Fin 16) : payOf A c (.pp (par k)) (k.val / 2) false
    = iprop(tilePts c (slot2 pB (par k)) fullShare (A.pT c k) ∗ tilePts c (ownRows pA c k) fullShare.right (A.pT c k)) := by
  unfold payOf; dsimp only; rw [tileOf_par]
theorem payOf_rr (k : Fin 16) : payOf A c (.rr (par k)) (k.val / 2) false
    = iprop(tilePts c (slot2 rB (par k)) fullShare (A.rT c k) ∗ tilePts c (ownRows rA c k) fullShare (A.rT c k)) := by
  unfold payOf; dsimp only; rw [tileOf_par]
theorem payOf_oo (k : Fin 16) : payOf A c (.oo (par k)) (k.val / 2) false
    = iprop(tilePts c (ownRows oA c k) fullShare (A.oT c k) ∗ tilePts c (slot2 oB (par k)) fullShare.right (A.oT c k)) := by
  unfold payOf; dsimp only; rw [tileOf_par]

theorem half_lt (k : Fin 16) : k.val / 2 < 8 := by have := k.isLt; omega

/-! ## The transfers -/

theorem ySend_does (k : Fin 16) : does A ns c
    iprop((tilePts c (ownRows pA c k) fullShare (A.pT c k) ∗ tileAny (devY c) (slot16 yB k) ∗ tok1 c (.ys k) ∗ tok1 (devY c) (.yr k))
      ∗ owesAny c (oweY c k.val + oweX c 0))
    (ySend c k)
    iprop((tilePts c (ownRows pA c k) fullShare.right (A.pT c k) ∗ due c (.ys k)) ∗ owesAny c (oweY c (k.val + 1) + oweX c 0)) :=
  fun K Q => by
  have hO : oweY c k.val + oweX c 0 = (oweY c (k.val + 1) + oweX c 0) + tallyAt (cell (devY c) (.yr k)) () N := by
    rw [oweY_step, add_right_comm]
  have h := send_rule A ns c (κ := .ys k) (κ' := .yr k) (e := devY c) (src := ownRows pA c k) (dst := slot16 yB k)
    (h₀ := rfl) (h₁ := View.wordExact_bits rfl) (h₂ := (View.wordExact_bits rfl).reshape _ _)
    (h₃ := ⟨⟨rfl, Or.inl rfl⟩, trivial⟩) (q := fullShare.left) (T := A.pT c k)
    (fun h => by cases h) (fun h => by cases h) Nat.one_pos Nat.one_pos rfl hO rfl (payOf_yr A c k) K Q
  have hs := tilePts_split (F := F) c (ownRows pA c k) (A.pT c k)
  iintro #He ⟨⟨HT, Hd, H1, H2⟩, HO⟩ Hk
  ihave HT' := hs $$ HT
  icases HT' with ⟨Hl, Hr⟩
  unfold ySend
  iapply h $$ He [Hl Hd H1 H2 HO]
  · isplitl [Hl]; · iexact Hl
    isplitl [Hd]; · iexact Hd
    isplitl [H1]; · iexact H1
    isplitl [H2]; · iexact H2
    iexact HO
  iintro ⟨Hc, HO⟩
  iapply Hk
  isplitl [Hr Hc]
  · isplitl [Hr] <;> iassumption
  iexact HO

theorem xSend_does (k : Fin 16) : does A ns c
    iprop(tilePts c (slot2 oB (par k)) fullShare.left (A.oT c k) ∗ tileAny (devX c) (slot16 xB k) ∗ tok1 c (.xs k) ∗ tok1 (devX c) (.xr k)
      ∗ owesAny c (oweX c k.val))
    (xSend c k (par k))
    iprop(due c (.xs k) ∗ owesAny c (oweX c (k.val + 1))) :=
  fun K Q => by
  exact send_rule A ns c (κ := .xs k) (κ' := .xr k) (e := devX c) (src := slot2 oB (par k)) (dst := slot16 xB k)
    (h₀ := rfl) (h₁ := (View.wordExact_bits rfl).reshape _ _) (h₂ := (View.wordExact_bits rfl).reshape _ _)
    (h₃ := ⟨⟨rfl, Or.inl rfl⟩, trivial⟩) (q := fullShare.left) (T := A.oT c k)
    (fun h => by cases h) (fun h => by cases h) Nat.one_pos Nat.one_pos rfl (oweX_step c k) rfl (payOf_xr A c k) K Q

theorem loadP_does (k : Fin 16) : does A ns c
    iprop(tilePts c (ownRows pA c k) fullShare.right (A.pT c k) ∗ tileAny c (slot2 pB (par k)) ∗ tokR c (.pp (par k)) (k.val / 2)
      ∗ reached ER (cell c (.pp (par k))) (k.val / 2))
    (loadP c k (par k)) (due c (.pp (par k))) := fun K Q =>
  copy_rule A ns c (κ := .pp (par k)) (src := ownRows pA c k) (dst := slot2 pB (par k)) (h₁ := View.wordExact_bits rfl)
    (h₂ := (View.wordExact_bits rfl).reshape _ _) (h₃ := ⟨Or.inl rfl, trivial⟩)
    (fun h => by cases h) (half_lt k) rfl (payOf_pp A c k) K Q

theorem loadR_does (k : Fin 16) : does A ns c
    iprop(tilePts c (ownRows rA c k) fullShare (A.rT c k) ∗ tileAny c (slot2 rB (par k)) ∗ tokR c (.rr (par k)) (k.val / 2)
      ∗ reached ER (cell c (.rr (par k))) (k.val / 2))
    (loadR c k (par k)) (due c (.rr (par k))) := fun K Q =>
  copy_rule A ns c (κ := .rr (par k)) (src := ownRows rA c k) (dst := slot2 rB (par k)) (h₁ := View.wordExact_bits rfl)
    (h₂ := (View.wordExact_bits rfl).reshape _ _) (h₃ := ⟨Or.inl rfl, trivial⟩)
    (fun h => by cases h) (half_lt k) rfl (payOf_rr A c k) K Q

theorem storeO_does (k : Fin 16) : does A ns c
    iprop(tilePts c (slot2 oB (par k)) fullShare.right (A.oT c k) ∗ tileAny c (ownRows oA c k) ∗ tokR c (.oo (par k)) (k.val / 2)
      ∗ reached ER (cell c (.oo (par k))) (k.val / 2))
    (storeO c k (par k)) (due c (.oo (par k))) := fun K Q =>
  copy_rule A ns c (κ := .oo (par k)) (src := slot2 oB (par k)) (dst := ownRows oA c k)
    (h₁ := (View.wordExact_bits rfl).reshape _ _) (h₂ := View.wordExact_bits rfl) (h₃ := ⟨Or.inl rfl, trivial⟩)
    (fun h => by cases h) (half_lt k) rfl (payOf_oo A c k) K Q

theorem storeX_does (k : Fin 16) : does A ns c
    iprop(tilePts c (slot16 xB k) fullShare (A.oT (devX c) k) ∗ tileAny c (otherRows oA c k) ∗ tokR c (.xo k) 0
      ∗ reached ER (cell c (.xo k)) 0)
    (storeX c k) (due c (.xo k)) := fun K Q =>
  copy_rule A ns c (κ := .xo k) (src := slot16 xB k) (dst := otherRows oA c k)
    (h₁ := (View.wordExact_bits rfl).reshape _ _) (h₂ := View.wordExact_bits rfl) (h₃ := ⟨Or.inl rfl, trivial⟩)
    (fun h => by cases h) Nat.one_pos rfl rfl K Q

/-! ## The waits -/

theorem waitP_does (k : Fin 16) {O : CellTallies nD τ sig Unit} (hO : Above 0 O) : does A ns c
    iprop(due c (.pp (par k)) ∗ owesAny c O ∗ atR c (.pp (par k)) (k.val / 2)) (waitP c k (par k))
    iprop(owesAny c O ∗ atR c (.pp (par k)) (k.val / 2 + 1)
      ∗ tilePts c (slot2 pB (par k)) fullShare (A.pT c k) ∗ tilePts c (ownRows pA c k) fullShare.right (A.pT c k)) := by
  rw [← payOf_pp]
  exact fun K Q => wait_rule A ns c (κ := .pp (par k)) (fun h => by cases h) (half_lt k)
    (wpE_waitDma2_eq (src := ownRows pA c k) (dst := slot2 pB (par k)) 𝒱₀ (c : Thread nD τ) none Set.univ) hO K Q

theorem waitR_does (k : Fin 16) {O : CellTallies nD τ sig Unit} (hO : Above 0 O) : does A ns c
    iprop(due c (.rr (par k)) ∗ owesAny c O ∗ atR c (.rr (par k)) (k.val / 2)) (waitR c k (par k))
    iprop(owesAny c O ∗ atR c (.rr (par k)) (k.val / 2 + 1)
      ∗ tilePts c (slot2 rB (par k)) fullShare (A.rT c k) ∗ tilePts c (ownRows rA c k) fullShare (A.rT c k)) := by
  rw [← payOf_rr]
  exact fun K Q => wait_rule A ns c (κ := .rr (par k)) (fun h => by cases h) (half_lt k)
    (wpE_waitDma2_eq (src := ownRows rA c k) (dst := slot2 rB (par k)) 𝒱₀ (c : Thread nD τ) none Set.univ) hO K Q

theorem waitO_does (k : Fin 16) {O : CellTallies nD τ sig Unit} (hO : Above 0 O) : does A ns c
    iprop(due c (.oo (par k)) ∗ owesAny c O ∗ atR c (.oo (par k)) (k.val / 2)) (waitO c k (par k))
    iprop(owesAny c O ∗ atR c (.oo (par k)) (k.val / 2 + 1)
      ∗ tilePts c (ownRows oA c k) fullShare (A.oT c k) ∗ tilePts c (slot2 oB (par k)) fullShare.right (A.oT c k)) := by
  rw [← payOf_oo]
  exact fun K Q => wait_rule A ns c (κ := .oo (par k)) (fun h => by cases h) (half_lt k)
    (wpE_waitDma2_eq (src := slot2 oB (par k)) (dst := ownRows oA c k) 𝒱₀ (c : Thread nD τ) none Set.univ) hO K Q

theorem waitY_does (k : Fin 16) {O : CellTallies nD τ sig Unit} (hO : Above 2 O) : does A ns c
    iprop(due c (.yr k) ∗ owesAny c O ∗ atR c (.yr k) 0) (waitY c k)
    iprop(owesAny c O ∗ atR c (.yr k) 1 ∗ tilePts c (slot16 yB k) fullShare (A.pT (devY c) k)) :=
  fun K Q => wait_rule A ns c (κ := .yr k) (fun h => by cases h) Nat.one_pos
    (wpE_waitDma2_eq (src := ownRows pA c k) (dst := slot16 yB k) 𝒱₀ (c : Thread nD τ) none Set.univ) hO K Q

theorem waitXs_does (k : Fin 16) {O : CellTallies nD τ sig Unit} (hO : Above 0 O) : does A ns c
    iprop(due c (.xs k) ∗ owesAny c O ∗ atR c (.xs k) 0) (waitXs k (par k))
    iprop(owesAny c O ∗ atR c (.xs k) 1 ∗ tilePts c (slot2 oB (par k)) fullShare.left (A.oT c k)) :=
  fun K Q => wait_rule A ns c (κ := .xs k) (fun h => by cases h) Nat.one_pos
    (wpE_waitDma2_eq (src := slot16 xB k) (dst := slot2 oB (par k)) 𝒱₀ (c : Thread nD τ) none Set.univ) hO K Q

theorem waitXr_does (k : Fin 16) : does A ns c
    iprop(due c (.xr k) ∗ owesAny c 0 ∗ atR c (.xr k) 0) (waitXr k (par k))
    iprop(owesAny c 0 ∗ atR c (.xr k) 1 ∗ tilePts c (slot16 xB k) fullShare (A.oT (devX c) k)) :=
  fun K Q => wait_rule A ns c (κ := .xr k) (fun h => by cases h) Nat.one_pos
    (wpE_waitDma2_eq (src := slot2 oB (par k)) (dst := slot16 xB k) 𝒱₀ (c : Thread nD τ) none Set.univ) (Above.zero _) K Q

theorem waitXo_does (k : Fin 16) : does A ns c
    iprop(due c (.xo k) ∗ owesAny c 0 ∗ atR c (.xo k) 0) (waitXo c k)
    iprop(owesAny c 0 ∗ atR c (.xo k) 1
      ∗ tilePts c (otherRows oA c k) fullShare (A.oT (devX c) k) ∗ tilePts c (slot16 xB k) fullShare (A.oT (devX c) k)) :=
  fun K Q => wait_rule A ns c (κ := .xo k) (fun h => by cases h) Nat.one_pos
    (wpE_waitDma2_eq (src := slot16 xB k) (dst := otherRows oA c k) 𝒱₀ (c : Thread nD τ) none Set.univ) (Above.zero _) K Q

theorem waitYs_does (k : Fin 16) : does A ns c
    iprop(due c (.ys k) ∗ owesAny c 0 ∗ atR c (.ys k) 0) (waitYs c k)
    iprop(owesAny c 0 ∗ atR c (.ys k) 1 ∗ tilePts c (ownRows pA c k) fullShare.left (A.pT c k)) :=
  fun K Q => wait_rule A ns c (κ := .ys k) (fun h => by cases h) Nat.one_pos
    (wpE_waitDma2_eq (src := slot16 yB k) (dst := ownRows pA c k) 𝒱₀ (c : Thread nD τ) none Set.univ) (Above.zero _) K Q

/-! ## Loads and stores -/

/-- The scale's buffer, at the scale. -/
def gPts : sProp 𝕄 := gB.view.loc (c : Thread nD τ) ↦{fullShare} (A.g c : Buf (Elt F) (gB.view.loc (c : Thread nD τ)))

theorem read2_rule (m : Memref sig .tc .vmem S2x64x2048 .f32) (s : Fin 2) (T : Tile F) (K : Vec F S1x64x2048 .f32 → TcProg F)
    (Q : PUnit → sProp 𝕄) :
    tilePts c (slot2 m s) fullShare T ⊢ iprop((∀ w, ⌜shapeCast S64x2048 w shapeCasts_S1x64x2048_S64x2048 = T⌝ -∗ tilePts c (slot2 m s) fullShare T -∗ run c (K w) Q)
      -∗ run c (read2 m s K) Q) := by
  have hset : (m.access (rect2 s)).set ⊆ (slot2 m s).view.set :=
    Finset.Subset.antisymm_iff.mp (View.set_reshape (m.view.slice (rect2 s)) squeezes_S1x64x2048_S64x2048.numel_eq) |>.2
  have h := fun f => Idealize.ShloMosaic.wp_load_rect (defs := defs₀ (F := F)) (Γ := .empty) 𝒱₀ (c : Thread nD τ) none Set.univ (Q := Q) (m := m) (r := rect2 s)
    (hl := View.loadsAt_vmem h_S1x64x2048) (k := K) (S := (slot2 m s).view.set) (q := fullShare) (f := f) hset
  unfold tilePts read2
  iintro ⟨%f, %hf, H⟩ Hk
  iapply (h f) $$ H
  iintro H
  iapply Hk
  · ipureintro; exact hf
  iexists f; isplitr
  · ipureintro; exact hf
  · iexact H

theorem read16_rule (m : Memref sig .tc .vmem S16x64x2048 .f32) (s : Fin 16) (T : Tile F) (K : Vec F S1x64x2048 .f32 → TcProg F)
    (Q : PUnit → sProp 𝕄) :
    tilePts c (slot16 m s) fullShare T ⊢ iprop((∀ w, ⌜shapeCast S64x2048 w shapeCasts_S1x64x2048_S64x2048 = T⌝ -∗ tilePts c (slot16 m s) fullShare T -∗ run c (K w) Q)
      -∗ run c (read16 m s K) Q) := by
  have hset : (m.access (rect16 s)).set ⊆ (slot16 m s).view.set :=
    Finset.Subset.antisymm_iff.mp (View.set_reshape (m.view.slice (rect16 s)) squeezes_S1x64x2048_S64x2048.numel_eq) |>.2
  have h := fun f => Idealize.ShloMosaic.wp_load_rect (defs := defs₀ (F := F)) (Γ := .empty) 𝒱₀ (c : Thread nD τ) none Set.univ (Q := Q) (m := m) (r := rect16 s)
    (hl := View.loadsAt_vmem h_S1x64x2048) (k := K) (S := (slot16 m s).view.set) (q := fullShare) (f := f) hset
  unfold tilePts read16
  iintro ⟨%f, %hf, H⟩ Hk
  iapply (h f) $$ H
  iintro H
  iapply Hk
  · ipureintro; exact hf
  iexists f; isplitr
  · ipureintro; exact hf
  · iexact H

theorem readG_rule (K : Vec F S1x2048 .f32 → TcProg F) (Q : PUnit → sProp 𝕄) :
    gPts A c ⊢ iprop((gPts A c -∗ run c (K (A.g c)) Q) -∗ run c (readG K) Q) := by
  have hz : (![0, 0] : Fin 2 → ℕ) = fun _ => 0 := by decide
  have hr : (gB.access (Rect.unit (s := S1x2048) ![0, 0] S1x2048.size inb_S1x2048_S1x2048_0_0)).read (Elt F) (A.g c) = A.g c :=
    Memref.read_access_unit_zero (Elt F) cc0_stg0_0 hz inb_S1x2048_S1x2048_0_0 (A.g c)
  have h := Idealize.ShloMosaic.wp_load_rect (defs := defs₀ (F := F)) (Γ := .empty) 𝒱₀ (c : Thread nD τ) none Set.univ (Q := Q) (m := gB)
    (r := Rect.unit (s := S1x2048) ![0, 0] S1x2048.size inb_S1x2048_S1x2048_0_0)
    (hl := View.loadsAt_vmem h_S1x2048) (k := K) (S := Finset.univ) (q := fullShare) (f := A.g c) (Finset.subset_univ _)
  rw [hr] at h
  unfold gPts readG
  exact h

theorem writeO_rule (s : Fin 2) (T : Tile F) (w : Vec F S1x64x2048 .f32) (hw : shapeCast S64x2048 w shapeCasts_S1x64x2048_S64x2048 = T)
    (K : TcProg F) (Q : PUnit → sProp 𝕄) :
    tileAny c (slot2 oB s) ⊢ iprop((tilePts c (slot2 oB s) fullShare T -∗ run c K Q) -∗ run c (writeO s w K) Q) := by
  have hset : (oB.access (rect2 s)).setOn Finset.univ ⊆ (slot2 oB s).view.set :=
    Finset.Subset.antisymm_iff.mp (View.set_reshape (oB.view.slice (rect2 s)) squeezes_S1x64x2048_S64x2048.numel_eq) |>.2
  have h := fun f => Idealize.ShloMosaic.wp_store (defs := defs₀ (F := F)) (Γ := .empty) 𝒱₀ (c : Thread nD τ) none Set.univ (Q := Q) (m := oB) (r := rect2 s)
    (w := w) (Mk := Finset.univ) (hx := View.stores_vmem_bits_univ h_S1x64x2048 rfl) (hm := .inl rfl)
    (k := fun _ => K) (S := (slot2 oB s).view.set) (f := f) hset
  have hread : ∀ f, (slot2 oB s).view.read (Elt F) ((oB.access (rect2 s)).write (Elt F) f w Finset.univ) = T := fun f => by
    refine Eq.trans ?_ hw
    show shapeCast S64x2048 ((oB.access (rect2 s)).read (Elt F) ((oB.access (rect2 s)).write (Elt F) f w Finset.univ)) _ = _
    rw [View.read_write_univ]
  unfold tileAny tilePts writeO
  iintro ⟨%T', %f, -, H⟩ Hk
  iapply (h f) $$ H
  iintro H
  iapply Hk
  iexists ((oB.access (rect2 s)).write (Elt F) f w Finset.univ); isplitr
  · ipureintro; exact hread f
  · iexact H

end Cert.KernelIdeal.Fused
-- ==== Proof.KI.TileLoop.lean ====
/-
  The tile loop: the copies of the tile after the current one are started, the tile's operands waited for, the tile
  computed, sent to the row neighbour and copied to the output, in double buffers.

  `tileInv n` is what holds before turn `n`. What depends on the slot is said at `n`, whose slot is `n % 2`, so that
  the state of a slot two turns later is the same words at `n + 2`.
-/
module

public import proofs.«01_k».proof.Proof.KI.StepRules

@[expose] public section

noncomputable section

namespace Cert.KernelIdeal.Fused

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Slots and tiles by number -/

def parN (n : ℕ) : Fin 2 := ⟨n % 2, Nat.mod_lt _ (by decide)⟩
def tileN (n : ℕ) : Fin 16 := ⟨n % 16, Nat.mod_lt _ (by decide)⟩

theorem parN_add (n : ℕ) : parN (n + 2) = parN n := Fin.ext (Nat.add_mod_right n 2)
theorem tileN_val (k : Fin 16) : tileN k.val = k := Fin.ext (Nat.mod_eq_of_lt k.isLt)
theorem half_add (n : ℕ) : (n + 2) / 2 = n / 2 + 1 := Nat.add_div_right n (by decide)

theorem stage_past (B B' : Fin 16 → sProp 𝕄) (n : ℕ) (h : 16 ≤ n) : stage B B' n = bigSep Finset.univ B' :=
  bigSep_congr fun j _ => if_pos (lt_of_lt_of_le j.isLt h)

variable (A : Inputs F) (ns : GSem nD τ sig → ℕ) (c : Dev nD)

/-! ## The parts of the invariant -/

/-- What loading tile `k` takes, and what its wait gives back. -/
def loadIn (k : Fin 16) : sProp 𝕄 :=
  iprop((tilePts c (ownRows pA c k) fullShare.right (A.pT c k) ∗ tokR c (.pp (par k)) (k.val / 2))
    ∗ tilePts c (ownRows rA c k) fullShare (A.rT c k) ∗ tokR c (.rr (par k)) (k.val / 2))
def loadOut (k : Fin 16) : sProp 𝕄 :=
  iprop(tilePts c (ownRows pA c k) fullShare.right (A.pT c k) ∗ tilePts c (ownRows rA c k) fullShare (A.rT c k))
/-- The operands' slot is being filled; is free. -/
def fly (n : ℕ) : sProp 𝕄 := iprop(due c (.pp (parN n)) ∗ due c (.rr (parN n)))
def free (n : ℕ) : sProp 𝕄 := iprop(tileAny (F := F) c (slot2 pB (parN n)) ∗ tileAny (F := F) c (slot2 rB (parN n)))
def busy (n : ℕ) : sProp 𝕄 := if n < 16 then fly c n else free c n
/-- The operands' cells stand at the round of tile `n`. -/
def aL (n : ℕ) : sProp 𝕄 := iprop(atR c (.pp (parN n)) (n / 2) ∗ atR c (.rr (parN n)) (n / 2))

def yIn (k : Fin 16) : sProp 𝕄 := iprop(due c (.yr k) ∗ atR c (.yr k) 0)
def yOut (k : Fin 16) : sProp 𝕄 := iprop(atR c (.yr k) 1 ∗ tilePts c (slot16 yB k) fullShare (A.pT (devY c) k))

/-- The result's slot before turn `n`: free at first, later still lent to the transfers of tile `n - 2`. -/
def oSlot (n : ℕ) : sProp 𝕄 :=
  if n < 2 then tileAny (F := F) c (slot2 oB (parN n)) else iprop(due c (.oo (parN n)) ∗ due c (.xs (tileN (n - 2))))
def aO (n : ℕ) : sProp 𝕄 := atR c (.oo (parN n)) (n / 2 - 1)

/-- What sending and storing tile `k` takes. -/
def dIn (k : Fin 16) : sProp 𝕄 :=
  iprop((tileAny (F := F) (devX c) (slot16 xB k) ∗ tok1 c (.xs k) ∗ tok1 (devX c) (.xr k))
    ∗ tileAny (F := F) c (ownRows oA c k) ∗ tokR c (.oo (par k)) (k.val / 2))
def sIn (k : Fin 16) : sProp 𝕄 := atR c (.xs k) 0
def sOut (k : Fin 16) : sProp 𝕄 := iprop(atR c (.xs k) 1 ∗ tilePts c (ownRows oA c k) fullShare (A.oT c k))

/-- A part that is used up. -/
abbrev used (_ : Fin 16) : sProp 𝕄 := iprop(emp)

def tileInv (n : ℕ) : sProp 𝕄 :=
  iprop(stage (loadIn A c) used (n + 1) ∗ stage used (loadOut A c) n ∗ busy c n ∗ free c (n + 1) ∗ aL c n ∗ aL c (n + 1)
    ∗ stage (yIn c) (yOut A c) n ∗ oSlot c n ∗ oSlot c (n + 1) ∗ aO c n ∗ aO c (n + 1)
    ∗ stage (dIn c) used n ∗ stage (sIn c) (sOut A c) (n - 2) ∗ gPts A c ∗ owesAny c (oweX c n))

theorem busy_lt (k : Fin 16) : busy (F := F) c k.val = fly c k.val := if_pos k.isLt
theorem free_add (n : ℕ) : free (F := F) c (n + 2) = free c n := by unfold free; rw [parN_add]
theorem aL_add (n : ℕ) : aL (F := F) c (n + 2) = iprop(atR c (.pp (parN n)) (n / 2 + 1) ∗ atR c (.rr (parN n)) (n / 2 + 1)) := by
  unfold aL; rw [parN_add, half_add]
theorem aO_add (n : ℕ) : aO (F := F) c (n + 2) = atR c (.oo (parN n)) (n / 2) := by
  unfold aO; rw [parN_add, half_add, Nat.add_sub_cancel]
theorem oSlot_add (k : Fin 16) : oSlot (F := F) c (k.val + 2) = iprop(due c (.oo (par k)) ∗ due c (.xs k)) := by
  unfold oSlot; rw [if_neg (by omega), parN_add, Nat.add_sub_cancel, tileN_val]; rfl

/-! ## The parts of a turn -/

theorem load_does (k : Fin 16) : does A ns c iprop(loadIn A c k ∗ free c k.val ∗ aL c k.val)
    (fun K => loadP c k (par k) (loadR c k (par k) K)) iprop(fly c k.val ∗ aL c k.val) := fun K Q => by
  unfold loadIn free aL fly atR
  iintro #He ⟨⟨⟨Hp, Htp⟩, Hr, Htr⟩, ⟨Hsp, Hsr⟩, ⟨Hap, #Hrp⟩, Har, #Hrr⟩ Hk
  iapply (loadP_does A ns c k _ Q) $$ He [Hp Htp Hsp]
  · isplitl [Hp]; · iexact Hp
    isplitl [Hsp]; · iexact Hsp
    isplitl [Htp]; · iexact Htp
    iexact Hrp
  iintro Hdp
  iapply (loadR_does A ns c k K Q) $$ He [Hr Htr Hsr]
  · isplitl [Hr]; · iexact Hr
    isplitl [Hsr]; · iexact Hsr
    isplitl [Htr]; · iexact Htr
    iexact Hrr
  iintro Hdr
  iapply Hk
  isplitl [Hdp Hdr]
  · isplitl [Hdp]; · iexact Hdp
    iexact Hdr
  isplitl [Hap]
  · isplitl [Hap]; · iexact Hap
    iexact Hrp
  isplitl [Har]; · iexact Har
  iexact Hrr

theorem prefetch_does (k : Fin 16) : does A ns c
    iprop(stage (loadIn A c) used (k.val + 1) ∗ free c (k.val + 1) ∗ aL c (k.val + 1)) (prefetch c k)
    iprop(stage (loadIn A c) used (k.val + 1 + 1) ∗ busy c (k.val + 1) ∗ aL c (k.val + 1)) := by
  by_cases h : k.val < 15
  · have hn : (next k).val = k.val + 1 := Nat.mod_eq_of_lt (by omega)
    have ht := stage_take (loadIn A c) used (next k)
    have hl := load_does A ns c (next k)
    rw [← busy_lt] at hl
    rw [hn] at ht hl
    have hf : prefetch (F := F) c k = fun K => loadP c (next k) (par (next k)) (loadR c (next k) (par (next k)) K) :=
      funext fun K => if_pos h
    rw [hf]
    intro K Q
    iintro #He ⟨HS, Hf, Ha⟩ Hk
    ihave Ht := ht $$ HS
    icases Ht with ⟨HL, Hback⟩
    iapply (hl K Q) $$ He [HL Hf Ha]
    · isplitl [HL]; · iexact HL
      isplitl [Hf] <;> iassumption
    iintro ⟨Hb, Ha⟩
    iapply Hk
    isplitl [Hback]
    · iapply Hback
      iempintro
    isplitl [Hb] <;> iassumption
  · have hk : k.val + 1 = 16 := by have := k.isLt; omega
    have hf : prefetch (F := F) c k = fun K => K := funext fun K => if_neg h
    rw [hf, hk, stage_past _ _ 16 le_rfl, stage_past _ _ (16 + 1) (by decide)]
    have hb : busy (F := F) c 16 = free c 16 := if_neg (by decide)
    rw [hb]
    exact does.nothing (Entails.of_eq rfl)

theorem waitLoad_does (k : Fin 16) {O : CellTallies nD τ sig Unit} (hO : Above 0 O) : does A ns c
    iprop(busy c k.val ∗ aL c k.val ∗ owesAny c O) (fun K => waitP c k (par k) (waitR c k (par k) K))
    iprop(owesAny c O ∗ aL c (k.val + 2) ∗ tilePts c (slot2 pB (par k)) fullShare (A.pT c k)
      ∗ tilePts c (slot2 rB (par k)) fullShare (A.rT c k) ∗ loadOut A c k) := by
  rw [busy_lt, aL_add]
  unfold fly aL loadOut
  intro K Q
  iintro #He ⟨⟨Hdp, Hdr⟩, ⟨Hap, Har⟩, HO⟩ Hk
  iapply (waitP_does A ns c k hO _ Q) $$ He [Hdp Hap HO]
  · isplitl [Hdp]; · iexact Hdp
    isplitl [HO]; · iexact HO
    iexact Hap
  iintro ⟨HO, Hap, Hsp, Hp⟩
  iapply (waitR_does A ns c k hO K Q) $$ He [Hdr Har HO]
  · isplitl [Hdr]; · iexact Hdr
    isplitl [HO]; · iexact HO
    iexact Har
  iintro ⟨HO, Har, Hsr, Hr⟩
  iapply Hk
  isplitl [HO]; · iexact HO
  isplitl [Hap Har]
  · isplitl [Hap]; · iexact Hap
    iexact Har
  isplitl [Hsp]; · iexact Hsp
  isplitl [Hsr]; · iexact Hsr
  isplitl [Hp] <;> iassumption

theorem reclaim_does (k : Fin 16) {O : CellTallies nD τ sig Unit} (hO : Above 0 O) : does A ns c
    iprop(oSlot c k.val ∗ aO c k.val ∗ stage (sIn c) (sOut A c) (k.val - 2) ∗ owesAny c O) (reclaim c k)
    iprop(tileAny (F := F) c (slot2 oB (par k)) ∗ aO c (k.val + 2) ∗ stage (sIn c) (sOut A c) (k.val + 1 - 2) ∗ owesAny c O) := by
  rw [aO_add]
  by_cases h : 2 ≤ k.val
  · have hs : oSlot (F := F) c k.val = iprop(due c (.oo (parN k.val)) ∗ due c (.xs (tileN (k.val - 2)))) := if_neg (by omega)
    have hj : (back2 k).val = k.val - 2 := rfl
    have hp : par k = par (back2 k) := Fin.ext (by show k.val % 2 = (k.val - 2) % 2; omega)
    have hpn : parN k.val = par (back2 k) := hp
    have htn : tileN (k.val - 2) = back2 k := tileN_val (back2 k)
    have hr : k.val / 2 - 1 = (back2 k).val / 2 := by rw [hj]; omega
    have hr' : k.val / 2 = (back2 k).val / 2 + 1 := by rw [hj]; omega
    have hn : k.val + 1 - 2 = (back2 k).val + 1 := by rw [hj]; omega
    have hf : reclaim (F := F) c k = fun K => waitO c (back2 k) (par (back2 k)) (waitXs (back2 k) (par (back2 k)) K) :=
      funext fun K => by unfold reclaim; rw [if_pos h, hp]
    have ht := stage_take (sIn c) (sOut A c) (back2 k)
    unfold aO
    rw [hf, hs, hpn, htn, hr, hr', hn, hp, ← hj]
    have hm := (BIBase.Entails.trans (tilePts_merge (F := F) c (slot2 oB (par (back2 k))) (A.oT c (back2 k))) (tilePts_any _ _ _) :
      _ ⊢ tileAny (F := F) c (slot2 oB (par (back2 k))))
    intro K Q
    iintro #He ⟨⟨Hdo, Hdx⟩, Ha, HS, HO⟩ Hk
    ihave Ht := ht $$ HS
    icases Ht with ⟨Hx, Hback⟩
    iapply (waitO_does A ns c (back2 k) hO _ Q) $$ He [Hdo Ha HO]
    · isplitl [Hdo]; · iexact Hdo
      isplitl [HO]; · iexact HO
      iexact Ha
    iintro ⟨HO, Ha, Hrow, Hright⟩
    iapply (waitXs_does A ns c (back2 k) hO K Q) $$ He [Hdx Hx HO]
    · isplitl [Hdx]; · iexact Hdx
      isplitl [HO]; · iexact HO
      unfold sIn; iexact Hx
    iintro ⟨HO, Hx, Hleft⟩
    iapply Hk
    isplitl [Hleft Hright]
    · iapply hm
      isplitl [Hleft] <;> iassumption
    isplitl [Ha]; · iexact Ha
    isplitl [Hback Hx Hrow]
    · iapply Hback
      unfold sOut
      isplitl [Hx] <;> iassumption
    iexact HO
  · have hs : oSlot (F := F) c k.val = tileAny c (slot2 oB (parN k.val)) := if_pos (by omega)
    have hr : k.val / 2 - 1 = k.val / 2 := by omega
    have hn : k.val + 1 - 2 = k.val - 2 := by omega
    have hf : reclaim (F := F) c k = fun K => K := funext fun K => if_neg h
    unfold aO
    rw [hf, hs, hr, hn]
    exact does.nothing (Entails.of_eq rfl)

theorem ship_does (k : Fin 16) : does A ns c
    iprop(tilePts c (slot2 oB (par k)) fullShare (A.oT c k) ∗ dIn c k ∗ reached ER (cell c (.oo (par k))) (k.val / 2)
      ∗ owesAny c (oweX c k.val))
    (fun K => xSend c k (par k) (storeO c k (par k) K))
    iprop(oSlot c (k.val + 2) ∗ owesAny c (oweX c (k.val + 1))) := fun K Q => by
  have hs := tilePts_split (F := F) c (slot2 oB (par k)) (A.oT c k)
  rw [oSlot_add]
  unfold dIn
  iintro #He ⟨HT, ⟨⟨Hd, H1, H2⟩, Hrow, Htok⟩, Hr, HO⟩ Hk
  ihave HT' := hs $$ HT
  icases HT' with ⟨Hl, Hright⟩
  iapply (xSend_does A ns c k _ Q) $$ He [Hl Hd H1 H2 HO]
  · isplitl [Hl]; · iexact Hl
    isplitl [Hd]; · iexact Hd
    isplitl [H1]; · iexact H1
    isplitl [H2]; · iexact H2
    iexact HO
  iintro ⟨Hdx, HO⟩
  iapply (storeO_does A ns c k K Q) $$ He [Hright Hrow Htok Hr]
  · isplitl [Hright]; · iexact Hright
    isplitl [Hrow]; · iexact Hrow
    isplitl [Htok]; · iexact Htok
    iexact Hr
  iintro Hdo
  iapply Hk
  isplitl [Hdo Hdx]
  · isplitl [Hdo] <;> iassumption
  iexact HO

/-- What the turn computes from the slots it reads is the tile's result. -/
theorem tileOut_eq (k : Fin 16) {p y r : Vec F S1x64x2048 .f32}
    (hp : shapeCast S64x2048 p shapeCasts_S1x64x2048_S64x2048 = A.pT c k)
    (hy : shapeCast S64x2048 y shapeCasts_S1x64x2048_S64x2048 = A.pT (devY c) k)
    (hr : shapeCast S64x2048 r shapeCasts_S1x64x2048_S64x2048 = A.rT c k) :
    shapeCast S64x2048 (tileOut p y r (A.g c)) shapeCasts_S1x64x2048_S64x2048 = A.oT c k := by
  unfold tileOut tileSum Inputs.oT
  rw [hp, hy, hr, shapeCast_shapeCast]

/-- One turn. -/
theorem tile_does (k : Fin 16) : does A ns c (tileInv A c k.val) (tile c k) (tileInv A c (k.val + 1)) := fun K Q => by
  have hX : ∀ n, Above 0 (oweX c n) := fun n => Above.oweX c n (by decide)
  have hX2 : ∀ n, Above 2 (oweX c n) := fun n => Above.oweX c n (by decide)
  have hlo := stage_take used (loadOut A c) k
  have hy := stage_take (yIn c) (yOut A c) k
  have hd := stage_take (dIn c) (F := F) used k
  have hrp := fun K => read2_rule (F := F) c pB (par k) (A.pT c k) K Q
  have hry := fun K => read16_rule (F := F) c yB k (A.pT (devY c) k) K Q
  have hrr := fun K => read2_rule (F := F) c rB (par k) (A.rT c k) K Q
  have hro := fun T K => read2_rule (F := F) c oB (par k) T K Q
  have hany := fun M : Memref sig .tc .vmem S64x2048 .f32 => fun T => tilePts_any (F := F) c M T
  have hyk : yIn (F := F) c k ⊢ iprop(due c (.yr k) ∗ atR c (.yr k) 0) := Entails.of_eq rfl
  have hopen : tileAny (F := F) c (slot2 oB (par k)) ⊢ iprop(∃ T, tilePts (F := F) c (slot2 oB (par k)) fullShare T) :=
    Entails.of_eq rfl
  have haO : aO (F := F) c (k.val + 2) = iprop(atPos ER (cell c (.oo (par k))) (k.val / 2) ∅ 0 ∗ reached ER (cell c (.oo (par k))) (k.val / 2)) :=
    aO_add c k.val
  have hfree : iprop(tileAny (F := F) c (slot2 pB (par k)) ∗ tileAny (F := F) c (slot2 rB (par k))) ⊢ free c (k.val + 1 + 1) :=
    Entails.of_eq (free_add c k.val).symm
  unfold tile tileInv
  iintro #He ⟨HL, HLo, Hb, Hf, Ha, Ha1, HY, Ho, Ho1, HaO, HaO1, HD, HS, Hg, HO⟩ Hk
  iapply (prefetch_does A ns c k _ Q) $$ He [HL Hf Ha1]
  · isplitl [HL]; · iexact HL
    isplitl [Hf] <;> iassumption
  iintro ⟨HL, Hb1, Ha1⟩
  iapply (waitLoad_does A ns c k (hX k.val) _ Q) $$ He [Hb Ha HO]
  · isplitl [Hb]; · iexact Hb
    isplitl [Ha] <;> iassumption
  iintro ⟨HO, Ha2, Hp, Hr, Hlo⟩
  ihave HY' := hy $$ HY
  icases HY' with ⟨Hyk, Hyback⟩
  ihave Hyk' := hyk $$ Hyk
  icases Hyk' with ⟨Hyd, Hya⟩
  iapply (waitY_does A ns c k (hX2 k.val) _ Q) $$ He [Hyd Hya HO]
  · isplitl [Hyd]; · iexact Hyd
    isplitl [HO] <;> iassumption
  iintro ⟨HO, Hya, Hy⟩
  iapply (hrp _) $$ Hp
  iintro %wp %hwp Hp
  iapply (hry _) $$ Hy
  iintro %wy %hwy Hy
  iapply (hrr _) $$ Hr
  iintro %wr %hwr Hr
  iapply (reclaim_does A ns c k (hX k.val) _ Q) $$ He [Ho HaO HS HO]
  · isplitl [Ho]; · iexact Ho
    isplitl [HaO]; · iexact HaO
    isplitl [HS] <;> iassumption
  iintro ⟨Hos, HaO2, HS, HO⟩
  iapply (readG_rule A c _ Q) $$ Hg
  iintro Hg
  ihave Hos' := hopen $$ Hos
  icases Hos' with ⟨%T', Hos⟩
  iapply (hro T' _) $$ Hos
  iintro %wo - Hos
  ihave Hos' := (hany (slot2 oB (par k)) T') $$ Hos
  iapply (writeO_rule (F := F) c (par k) (A.oT c k) _ (tileOut_eq A c k hwp hwy hwr) _ Q) $$ Hos'
  iintro Hos
  ihave HD' := hd $$ HD
  icases HD' with ⟨Hdk, HDback⟩
  ihave HaO' := (Entails.of_eq haO) $$ HaO2
  icases HaO' with ⟨HaO2, #Hro⟩
  iapply (ship_does A ns c k K Q) $$ He [Hos Hdk HO]
  · isplitl [Hos]; · iexact Hos
    isplitl [Hdk]; · iexact Hdk
    isplitr; · iexact Hro
    iexact HO
  iintro ⟨Ho2, HO⟩
  iapply Hk
  ihave HD2 := HDback $$ []
  · iempintro
  ihave HLo' := hlo $$ HLo
  icases HLo' with ⟨-, HLback⟩
  isplitl [HL]; · iexact HL
  isplitl [HLback Hlo]; · iapply HLback $$ Hlo
  isplitl [Hb1]; · iexact Hb1
  isplitl [Hp Hr]
  · iapply hfree
    isplitl [Hp]
    · iapply (hany (slot2 pB (par k)) (A.pT c k)) $$ Hp
    · iapply (hany (slot2 rB (par k)) (A.rT c k)) $$ Hr
  isplitl [Ha1]; · iexact Ha1
  isplitl [Ha2]; · iexact Ha2
  isplitl [Hyback Hya Hy]
  · iapply Hyback
    unfold yOut
    isplitl [Hya] <;> iassumption
  isplitl [Ho1]; · iexact Ho1
  isplitl [Ho2]; · iexact Ho2
  isplitl [HaO1]; · iexact HaO1
  isplitl [HaO2]
  · iapply (Entails.of_eq haO.symm)
    isplitl [HaO2]; · iexact HaO2
    iexact Hro
  isplitl [HD2]; · iexact HD2
  isplitl [HS]; · iexact HS
  isplitl [Hg]; · iexact Hg
  iexact HO

end Cert.KernelIdeal.Fused
-- ==== Proof.KI.Body.lean ====
/-
  The whole body on one device: from what the device starts with, it ends with its output filled, the landing buffers back
  and nothing owed.

  Each phase is a theorem of its own, over the families of what the tiles hold; `body_does` strings them.
-/
module

public import proofs.«01_k».proof.Proof.KI.TileLoop

@[expose] public section

noncomputable section

namespace Cert.KernelIdeal.Fused

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (A : Inputs F) (ns : GSem nD τ sig → ℕ) (c : Dev nD)

/-- A family over the tiles; over the slots of a double buffer. -/
abbrev fam (Φ : Fin 16 → sProp 𝕄) : sProp 𝕄 := bigSep Finset.univ Φ
abbrev fam2 (Φ : Fin 2 → sProp 𝕄) : sProp 𝕄 := bigSep Finset.univ Φ

/-- The right to pay a round-0 cell; the position on a cell; the knowledge that a round is open. -/
abbrev tok0 (e : Dev nD) (κ : Kind) : sProp 𝕄 := dutyTok ER (cell e κ) 0 false
abbrev posR (κ : Kind) (r : ℕ) : sProp 𝕄 := atPos ER (cell c κ) r ∅ 0
abbrev openR (e : Dev nD) (κ : Kind) (r : ℕ) : sProp 𝕄 := reached ER (cell e κ) r

/-! ## The phases -/

theorem ySend_phase : does A ns c
    iprop(fam (fun k => tilePts c (ownRows pA c k) fullShare (A.pT c k)) ∗ fam (fun k => tileAny (devY c) (slot16 yB k))
      ∗ fam (fun k => tok0 c (.ys k)) ∗ fam (fun k => openR c (.ys k) 0)
      ∗ fam (fun k => tok0 (devY c) (.yr k)) ∗ fam (fun k => openR (devY c) (.yr k) 0) ∗ owesAny c (oweY c 0 + oweX c 0))
    (steps (ySend c) 0 16)
    iprop(fam (fun k => tilePts c (ownRows pA c k) fullShare.right (A.pT c k)) ∗ fam (fun k => due c (.ys k)) ∗ owesAny c (oweX c 0)) := by
  refine (does.family (O := fun n => owesAny c (oweY c n + oweX c 0)) (ySend_does A ns c)).weaken ?_ ?_
  · unfold tok1
    simp only [fam, bigSep_sep']
    iintro ⟨H1, H2, H3, H4, H5, H6, HO⟩
    isplitr [HO]
    · isplitl [H1]; · iexact H1
      isplitl [H2]; · iexact H2
      isplitl [H3 H4]
      · isplitl [H3] <;> iassumption
      isplitl [H5] <;> iassumption
    iexact HO
  · simp only [fam, bigSep_sep', oweY_end, zero_add]
    iintro ⟨⟨H1, H2⟩, HO⟩
    isplitl [H1]; · iexact H1
    isplitl [H2] <;> iassumption

theorem tile_phase : does A ns c
    iprop(fam (loadIn A c) ∗ (free c 0 ∗ free c 1 ∗ aL c 0 ∗ aL c 1) ∗ fam (yIn c)
      ∗ (oSlot c 0 ∗ oSlot c 1 ∗ aO c 0 ∗ aO c 1) ∗ fam (dIn c) ∗ fam (sIn c) ∗ gPts A c ∗ owesAny c (oweX c 0))
    (fun K => loadP c 0 0 (loadR c 0 0 (steps (tile c) 0 16 K)))
    (tileInv A c 16) := fun K Q => by
  have ht := stage_take (loadIn A c) used 0
  rw [show ((0 : Fin 16) : ℕ) = 0 from rfl, stage_zero] at ht
  have hl := load_does A ns c 0 (steps (tile c) 0 16 K) Q
  have hloop := does.loop (tile_does A ns c) K Q
  have h0 : iprop(stage (loadIn A c) used (0 + 1) ∗ bigSep Finset.univ (used (F := F)) ∗ fly c 0 ∗ free c (0 + 1) ∗ aL c 0 ∗ aL c (0 + 1)
    ∗ bigSep Finset.univ (yIn c) ∗ oSlot c 0 ∗ oSlot c (0 + 1) ∗ aO c 0 ∗ aO c (0 + 1)
    ∗ bigSep Finset.univ (dIn c) ∗ bigSep Finset.univ (sIn c) ∗ gPts A c ∗ owesAny c (oweX c 0)) ⊢ tileInv A c 0 := by
    unfold tileInv
    rw [stage_zero, stage_zero, stage_zero, show 0 - 2 = 0 from rfl, stage_zero]
    exact Entails.of_eq rfl
  have hemp : (iprop(emp) : sProp 𝕄) ⊢ bigSep Finset.univ (used (F := F)) := bigSep_of_persistent _ _
  iintro #He ⟨HL, ⟨Hf0, Hf1, Ha0, Ha1⟩, HY, ⟨Ho0, Ho1, HaO0, HaO1⟩, HD, HS, Hg, HO⟩ Hk
  ihave HL' := ht $$ HL
  icases HL' with ⟨HL0, HLb⟩
  iapply hl $$ He [HL0 Hf0 Ha0]
  · isplitl [HL0]; · iexact HL0
    isplitl [Hf0]; · iexact Hf0
    iexact Ha0
  iintro ⟨Hfl, Ha0⟩
  iapply hloop $$ He [HLb Hfl Hf1 Ha0 Ha1 HY Ho0 Ho1 HaO0 HaO1 HD HS Hg HO] [Hk]
  · iapply h0
    isplitl [HLb]
    · iapply HLb
      iempintro
    isplitr
    · iapply hemp; iempintro
    isplitl [Hfl]; · iexact Hfl
    isplitl [Hf1]; · iexact Hf1
    isplitl [Ha0]; · iexact Ha0
    isplitl [Ha1]; · iexact Ha1
    isplitl [HY]; · iexact HY
    isplitl [Ho0]; · iexact Ho0
    isplitl [Ho1]; · iexact Ho1
    isplitl [HaO0]; · iexact HaO0
    isplitl [HaO1]; · iexact HaO1
    isplitl [HD]; · iexact HD
    isplitl [HS]; · iexact HS
    isplitl [Hg] <;> iassumption
  iexact Hk

theorem collect_phase : does A ns c
    iprop(fam (fun k => due c (.xr k)) ∗ fam (fun k => atR c (.xr k) 0) ∗ fam (fun k => tileAny (F := F) c (otherRows oA c k))
      ∗ fam (fun k => tokR c (.xo k) 0) ∗ fam (fun k => openR c (.xo k) 0) ∗ owesAny c 0)
    (steps (collect c) 0 16)
    iprop(fam (fun k => due c (.xo k)) ∗ fam (fun k => atR c (.xr k) 1) ∗ owesAny c 0) := by
  have h : ∀ k : Fin 16, does A ns c
      iprop((due c (.xr k) ∗ atR c (.xr k) 0 ∗ tileAny (F := F) c (otherRows oA c k) ∗ tokR c (.xo k) 0 ∗ openR c (.xo k) 0) ∗ owesAny c 0)
      (collect c k) iprop((due c (.xo k) ∗ atR c (.xr k) 1) ∗ owesAny c 0) := fun k K Q => by
    unfold collect
    iintro #He ⟨⟨Hd, Ha, Hrow, Ht, Hr⟩, HO⟩ Hk
    iapply (waitXr_does A ns c k _ Q) $$ He [Hd Ha HO]
    · isplitl [Hd]; · iexact Hd
      isplitl [HO] <;> iassumption
    iintro ⟨HO, Ha, Hx⟩
    iapply (storeX_does A ns c k K Q) $$ He [Hx Hrow Ht Hr]
    · isplitl [Hx]; · iexact Hx
      isplitl [Hrow]; · iexact Hrow
      isplitl [Ht] <;> iassumption
    iintro Hd
    iapply Hk
    isplitl [Hd Ha]
    · isplitl [Hd] <;> iassumption
    iexact HO
  refine (does.family (O := fun _ => owesAny c 0) h).weaken ?_ ?_
  · simp only [fam, bigSep_sep']
    iintro ⟨H1, H2, H3, H4, H5, HO⟩
    isplitr [HO]
    · isplitl [H1]; · iexact H1
      isplitl [H2]; · iexact H2
      isplitl [H3]; · iexact H3
      isplitl [H4] <;> iassumption
    iexact HO
  · simp only [fam, bigSep_sep']
    iintro ⟨⟨H1, H2⟩, HO⟩
    isplitl [H1]; · iexact H1
    isplitl [H2] <;> iassumption

/-- The waits for the last two tiles. -/
theorem drain_phase : does A ns c
    iprop((oSlot c 16 ∗ oSlot c 17 ∗ aO c 16 ∗ aO c 17) ∗ stage (sIn c) (sOut A c) 14 ∗ owesAny c 0)
    (fun K => waitO c 14 0 (waitO c 15 1 (waitXs 14 0 (waitXs 15 1 K))))
    iprop((tileAny (F := F) c (slot2 oB 0) ∗ tileAny (F := F) c (slot2 oB 1) ∗ atR c (.oo 0) 8 ∗ atR c (.oo 1) 8)
      ∗ fam (sOut A c) ∗ owesAny c 0) := fun K Q => by
  have h14 := waitO_does A ns c 14 (Above.zero 0)
  have h15 := waitO_does A ns c 15 (Above.zero 0)
  have x14 := waitXs_does A ns c 14 (Above.zero 0)
  have x15 := waitXs_does A ns c 15 (Above.zero 0)
  have ht14 : stage (sIn c) (sOut A c) 14 ⊢ iprop(sIn c 14 ∗ (sOut A c 14 -∗ stage (sIn c) (sOut A c) 15)) := stage_take _ _ 14
  have ht15 : stage (sIn c) (sOut A c) 15 ⊢ iprop(sIn c 15 ∗ (sOut A c 15 -∗ stage (sIn c) (sOut A c) 16)) := stage_take _ _ 15
  have hall := Entails.of_eq (stage_all (sIn c) (sOut A c))
  have hs16 : oSlot (F := F) c 16 ⊢ iprop(due c (.oo 0) ∗ due c (.xs 14)) := Entails.of_eq (if_neg (by decide))
  have hs17 : oSlot (F := F) c 17 ⊢ iprop(due c (.oo 1) ∗ due c (.xs 15)) := Entails.of_eq (if_neg (by decide))
  have ha16 : aO (F := F) c 16 ⊢ atR c (.oo 0) 7 := Entails.of_eq rfl
  have ha17 : aO (F := F) c 17 ⊢ atR c (.oo 1) 7 := Entails.of_eq rfl
  have hm := fun s k => (BIBase.Entails.trans (tilePts_merge (F := F) c (slot2 oB s) (A.oT c k)) (tilePts_any _ _ _) :
    _ ⊢ tileAny (F := F) c (slot2 oB s))
  have hso : ∀ k, iprop(atR c (.xs k) 1 ∗ tilePts c (ownRows oA c k) fullShare (A.oT c k)) ⊢ sOut A c k := fun k => Entails.of_eq rfl
  have hsi : ∀ k, sIn (F := F) c k ⊢ atR c (.xs k) 0 := fun k => Entails.of_eq rfl
  iintro #He ⟨⟨H16, H17, Ha16, Ha17⟩, HS, HO⟩ Hk
  ihave H16' := hs16 $$ H16
  icases H16' with ⟨Ho0, Hx14⟩
  ihave H17' := hs17 $$ H17
  icases H17' with ⟨Ho1, Hx15⟩
  ihave Ha16' := ha16 $$ Ha16
  ihave Ha17' := ha17 $$ Ha17
  iapply (h14 _ Q) $$ He [Ho0 HO Ha16']
  · isplitl [Ho0]; · iexact Ho0
    isplitl [HO]; · iexact HO
    iexact Ha16'
  iintro ⟨HO, Ha16, Hrow14, Hr0⟩
  iapply (h15 _ Q) $$ He [Ho1 HO Ha17']
  · isplitl [Ho1]; · iexact Ho1
    isplitl [HO]; · iexact HO
    iexact Ha17'
  iintro ⟨HO, Ha17, Hrow15, Hr1⟩
  ihave HS' := ht14 $$ HS
  icases HS' with ⟨Hs14, Hback⟩
  ihave Hs14' := (hsi 14) $$ Hs14
  iapply (x14 _ Q) $$ He [Hx14 HO Hs14']
  · isplitl [Hx14]; · iexact Hx14
    isplitl [HO] <;> iassumption
  iintro ⟨HO, Hs14, Hl0⟩
  ihave HS := Hback $$ [Hs14 Hrow14]
  · iapply (hso 14)
    isplitl [Hs14] <;> iassumption
  ihave HS' := ht15 $$ HS
  icases HS' with ⟨Hs15, Hback⟩
  ihave Hs15' := (hsi 15) $$ Hs15
  iapply (x15 _ Q) $$ He [Hx15 HO Hs15']
  · isplitl [Hx15]; · iexact Hx15
    isplitl [HO] <;> iassumption
  iintro ⟨HO, Hs15, Hl1⟩
  ihave HS := Hback $$ [Hs15 Hrow15]
  · iapply (hso 15)
    isplitl [Hs15] <;> iassumption
  iapply Hk
  isplitl [Hl0 Hr0 Hl1 Hr1 Ha16 Ha17]
  · isplitl [Hl0 Hr0]
    · iapply (hm 0 14)
      isplitl [Hl0]; · iexact Hl0
      iexact Hr0
    isplitl [Hl1 Hr1]
    · iapply (hm 1 15)
      isplitl [Hl1]; · iexact Hl1
      iexact Hr1
    isplitl [Ha16]; · iexact Ha16
    iexact Ha17
  isplitl [HS]
  · iapply hall $$ HS
  iexact HO

theorem waitXo_phase : does A ns c
    iprop(fam (fun k => due c (.xo k)) ∗ fam (fun k => atR c (.xo k) 0) ∗ owesAny c 0)
    (steps (waitXo c) 0 16)
    iprop(fam (fun k => atR c (.xo k) 1) ∗ fam (fun k => tilePts c (otherRows oA c k) fullShare (A.oT (devX c) k))
      ∗ fam (fun k => tilePts c (slot16 xB k) fullShare (A.oT (devX c) k)) ∗ owesAny c 0) := by
  have h : ∀ k : Fin 16, does A ns c iprop((due c (.xo k) ∗ atR c (.xo k) 0) ∗ owesAny c 0) (waitXo c k)
      iprop((atR c (.xo k) 1 ∗ tilePts c (otherRows oA c k) fullShare (A.oT (devX c) k)
        ∗ tilePts c (slot16 xB k) fullShare (A.oT (devX c) k)) ∗ owesAny c 0) := fun k =>
    (waitXo_does A ns c k).weaken
      (by iintro ⟨⟨H1, H2⟩, HO⟩; isplitl [H1]; · iexact H1
          isplitl [HO] <;> iassumption)
      (by iintro ⟨HO, H⟩; isplitl [H] <;> iassumption)
  refine (does.family (O := fun _ => owesAny c 0) h).weaken ?_ ?_
  · simp only [fam, bigSep_sep']
    iintro ⟨H1, H2, HO⟩
    isplitr [HO]
    · isplitl [H1] <;> iassumption
    iexact HO
  · simp only [fam, bigSep_sep']
    iintro ⟨⟨H1, H2, H3⟩, HO⟩
    isplitl [H1]; · iexact H1
    isplitl [H2]; · iexact H2
    isplitl [H3] <;> iassumption

theorem waitYs_phase : does A ns c
    iprop(fam (fun k => due c (.ys k)) ∗ fam (fun k => atR c (.ys k) 0) ∗ owesAny c 0)
    (steps (waitYs c) 0 16)
    iprop(fam (fun k => atR c (.ys k) 1) ∗ fam (fun k => tilePts c (ownRows pA c k) fullShare.left (A.pT c k)) ∗ owesAny c 0) := by
  have h : ∀ k : Fin 16, does A ns c iprop((due c (.ys k) ∗ atR c (.ys k) 0) ∗ owesAny c 0) (waitYs c k)
      iprop((atR c (.ys k) 1 ∗ tilePts c (ownRows pA c k) fullShare.left (A.pT c k)) ∗ owesAny c 0) := fun k =>
    (waitYs_does A ns c k).weaken
      (by iintro ⟨⟨H1, H2⟩, HO⟩; isplitl [H1]; · iexact H1
          isplitl [HO] <;> iassumption)
      (by iintro ⟨HO, H⟩; isplitl [H] <;> iassumption)
  refine (does.family (O := fun _ => owesAny c 0) h).weaken ?_ ?_
  · simp only [fam, bigSep_sep']
    iintro ⟨H1, H2, HO⟩
    isplitr [HO]
    · isplitl [H1] <;> iassumption
    iexact HO
  · simp only [fam, bigSep_sep']
    iintro ⟨⟨H1, H2⟩, HO⟩
    isplitl [H1]; · iexact H1
    isplitl [H2] <;> iassumption

/-! ## The parts of the start and of the end -/

/-- The rights of device `c` to pay, for tile `k`. -/
def toks (k : Fin 16) : sProp 𝕄 :=
  iprop((tok0 c (.ys k) ∗ tok0 (devY c) (.yr k)) ∗ (tok0 c (.xs k) ∗ tok0 (devX c) (.xr k))
    ∗ tokR c (.pp (par k)) (k.val / 2) ∗ tokR c (.rr (par k)) (k.val / 2) ∗ tokR c (.oo (par k)) (k.val / 2) ∗ tokR c (.xo k) 0)
/-- The device's rights at the barrier: to pay the neighbours' cells, and to wait. -/
def barIn : sProp 𝕄 :=
  iprop((dutyTok ER (cell (devY c) .bar) 0 false ∗ reached ER (cell (devY c) .bar) 0)
    ∗ (dutyTok ER (cell (devX c) .bar) 0 true ∗ reached ER (cell (devX c) .bar) 0)
    ∗ cred (tallyAt (cell c .bar) () 2) ∗ atPos ER (cell c .bar) 0 ∅ 0)
/-- The cells of one tile, and of one slot, at the start and at the end. -/
def posIn (k : Fin 16) : sProp 𝕄 :=
  iprop(atR c (.ys k) 0 ∗ atR c (.yr k) 0 ∗ atR c (.xs k) 0 ∗ atR c (.xr k) 0 ∗ atR c (.xo k) 0)
def posOut (k : Fin 16) : sProp 𝕄 :=
  iprop(atR c (.ys k) 1 ∗ atR c (.yr k) 1 ∗ atR c (.xs k) 1 ∗ atR c (.xr k) 1 ∗ atR c (.xo k) 1)
def posIn2 (s : Fin 2) : sProp 𝕄 := iprop(atR c (.pp s) 0 ∗ atR c (.rr s) 0 ∗ atR c (.oo s) 0)
def posOut2 (s : Fin 2) : sProp 𝕄 := iprop(atR c (.pp s) 8 ∗ atR c (.rr s) 8 ∗ atR c (.oo s) 8)
/-- The device's memory for one tile, at the start and at the end; and for one slot. -/
def memIn (k : Fin 16) : sProp 𝕄 :=
  iprop(tilePts c (ownRows pA c k) fullShare (A.pT c k) ∗ tilePts c (ownRows rA c k) fullShare (A.rT c k)
    ∗ tileAny (F := F) c (ownRows oA c k) ∗ tileAny (F := F) c (otherRows oA c k)
    ∗ tileAny (F := F) c (slot16 yB k) ∗ tileAny (F := F) c (slot16 xB k))
def memOut (k : Fin 16) : sProp 𝕄 :=
  iprop(tilePts c (ownRows pA c k) fullShare (A.pT c k) ∗ tilePts c (ownRows rA c k) fullShare (A.rT c k)
    ∗ tilePts c (ownRows oA c k) fullShare (A.oT c k) ∗ tilePts c (otherRows oA c k) fullShare (A.oT (devX c) k)
    ∗ tileAny (F := F) c (slot16 yB k) ∗ tileAny (F := F) c (slot16 xB k))
def mem2 (s : Fin 2) : sProp 𝕄 :=
  iprop(tileAny (F := F) c (slot2 pB s) ∗ tileAny (F := F) c (slot2 rB s) ∗ tileAny (F := F) c (slot2 oB s))

/-- What a device starts its body with, and what it ends it with. -/
def Start : sProp 𝕄 :=
  iprop(owesAny c (O₀ c) ∗ barIn c ∗ fam (toks c) ∗ (fam (fun k => due c (.yr k)) ∗ fam (fun k => due c (.xr k)))
    ∗ (fam (posIn c) ∗ fam2 (posIn2 c)) ∗ fam (memIn A c) ∗ fam2 (mem2 c) ∗ gPts A c)
def End : sProp 𝕄 :=
  iprop(owesAny c 0 ∗ atPos ER (cell c .bar) 1 ∅ 0 ∗ (fam (posOut c) ∗ fam2 (posOut2 c))
    ∗ fam (memOut A c) ∗ fam2 (mem2 c) ∗ gPts A c)

/-- A family of cells at a round, as positions and as what is known of them. -/
theorem fam_atR (κ : Fin 16 → Kind) (r : ℕ) :
    fam (fun k => atR (F := F) c (κ k) r) ⊢ iprop(fam (fun k => posR c (κ k) r) ∗ fam (fun k => openR c (κ k) r)) := by
  unfold atR; exact Entails.of_eq (bigSep_sep _ _ _)
theorem fam_atR' (κ : Fin 16 → Kind) (r : ℕ) :
    iprop(fam (fun k => posR c (κ k) r) ∗ fam (fun k => openR c (κ k) r)) ⊢ fam (fun k => atR (F := F) c (κ k) r) := by
  unfold atR; exact Entails.of_eq (bigSep_sep _ _ _).symm

/-- What the start holds for the tiles, family by family. -/
theorem memIn_open : fam (memIn A c) ⊢ iprop(fam (fun k => tilePts c (ownRows pA c k) fullShare (A.pT c k))
    ∗ fam (fun k => tilePts c (ownRows rA c k) fullShare (A.rT c k)) ∗ fam (fun k => tileAny (F := F) c (ownRows oA c k))
    ∗ fam (fun k => tileAny (F := F) c (otherRows oA c k)) ∗ fam (fun k => tileAny (F := F) c (slot16 yB k))
    ∗ fam (fun k => tileAny (F := F) c (slot16 xB k))) := by
  unfold memIn; simp only [fam, bigSep_sep']; exact BIBase.Entails.rfl
theorem toks_open : fam (toks (F := F) c) ⊢ iprop((fam (fun k => tok0 c (.ys k)) ∗ fam (fun k => tok0 (devY c) (.yr k)))
    ∗ (fam (fun k => tok0 c (.xs k)) ∗ fam (fun k => tok0 (devX c) (.xr k)))
    ∗ fam (fun k => tokR c (.pp (par k)) (k.val / 2)) ∗ fam (fun k => tokR c (.rr (par k)) (k.val / 2))
    ∗ fam (fun k => tokR c (.oo (par k)) (k.val / 2)) ∗ fam (fun k => tokR c (.xo k) 0)) := by
  unfold toks; simp only [fam, bigSep_sep']; exact BIBase.Entails.rfl
theorem posIn_open : fam (posIn (F := F) c) ⊢ iprop(fam (fun k => atR c (.ys k) 0) ∗ fam (fun k => atR c (.yr k) 0)
    ∗ fam (fun k => atR c (.xs k) 0) ∗ fam (fun k => atR c (.xr k) 0) ∗ fam (fun k => atR c (.xo k) 0)) := by
  unfold posIn; simp only [fam, bigSep_sep']; exact BIBase.Entails.rfl
theorem posOut_close : iprop(fam (fun k => atR c (.ys k) 1) ∗ fam (fun k => atR c (.yr k) 1)
    ∗ fam (fun k => atR c (.xs k) 1) ∗ fam (fun k => atR c (.xr k) 1) ∗ fam (fun k => atR c (.xo k) 1)) ⊢ fam (posOut (F := F) c) := by
  unfold posOut; simp only [fam, bigSep_sep']; exact BIBase.Entails.rfl
theorem loadIn_close : iprop(fam (fun k => tilePts c (ownRows pA c k) fullShare.right (A.pT c k))
    ∗ fam (fun k => tokR c (.pp (par k)) (k.val / 2)) ∗ fam (fun k => tilePts c (ownRows rA c k) fullShare (A.rT c k))
    ∗ fam (fun k => tokR c (.rr (par k)) (k.val / 2))) ⊢ fam (loadIn A c) := by
  unfold loadIn; simp only [fam, bigSep_sep']
  iintro ⟨H1, H2, H3, H4⟩
  isplitl [H1 H2]
  · isplitl [H1] <;> iassumption
  isplitl [H3] <;> iassumption
theorem yIn_close : iprop(fam (fun k => due c (.yr k)) ∗ fam (fun k => atR c (.yr k) 0)) ⊢ fam (yIn (F := F) c) := by
  unfold yIn; simp only [fam, bigSep_sep']; exact BIBase.Entails.rfl
theorem dIn_close : iprop(fam (fun k => tileAny (F := F) (devX c) (slot16 xB k)) ∗ fam (fun k => tok0 c (.xs k)) ∗ fam (fun k => openR c (.xs k) 0)
    ∗ fam (fun k => tok0 (devX c) (.xr k)) ∗ fam (fun k => openR (devX c) (.xr k) 0)
    ∗ fam (fun k => tileAny (F := F) c (ownRows oA c k)) ∗ fam (fun k => tokR c (.oo (par k)) (k.val / 2))) ⊢ fam (dIn (F := F) c) := by
  unfold dIn tok1; simp only [fam, bigSep_sep']
  iintro ⟨H1, H2, H3, H4, H5, H6, H7⟩
  isplitl [H1 H2 H3 H4 H5]
  · isplitl [H1]; · iexact H1
    isplitl [H2 H3]
    · isplitl [H2] <;> iassumption
    isplitl [H4] <;> iassumption
  isplitl [H6] <;> iassumption
/-- Back from the families to what the end holds for the tiles. -/
theorem memOut_close : iprop(fam (fun k => tilePts c (ownRows pA c k) fullShare.left (A.pT c k)) ∗ fam (loadOut A c)
    ∗ fam (fun k => tilePts c (ownRows oA c k) fullShare (A.oT c k))
    ∗ fam (fun k => tilePts c (otherRows oA c k) fullShare (A.oT (devX c) k))
    ∗ fam (fun k => tilePts c (slot16 yB k) fullShare (A.pT (devY c) k))
    ∗ fam (fun k => tilePts c (slot16 xB k) fullShare (A.oT (devX c) k))) ⊢ fam (memOut A c) := by
  have h : ∀ k, iprop(tilePts c (ownRows pA c k) fullShare.left (A.pT c k) ∗ loadOut A c k
      ∗ tilePts c (ownRows oA c k) fullShare (A.oT c k) ∗ tilePts c (otherRows oA c k) fullShare (A.oT (devX c) k)
      ∗ tilePts c (slot16 yB k) fullShare (A.pT (devY c) k) ∗ tilePts c (slot16 xB k) fullShare (A.oT (devX c) k)) ⊢ memOut A c k := fun k => by
    unfold loadOut memOut
    iintro ⟨Hl, ⟨Hr, H2⟩, H3, H4, H5, H6⟩
    isplitl [Hl Hr]
    · iapply (tilePts_merge (F := F) c (ownRows pA c k) (A.pT c k))
      isplitl [Hl] <;> iassumption
    isplitl [H2]; · iexact H2
    isplitl [H3]; · iexact H3
    isplitl [H4]; · iexact H4
    isplitl [H5]; · iapply (tilePts_any (F := F) c (slot16 yB k) (A.pT (devY c) k)) $$ H5
    iapply (tilePts_any (F := F) c (slot16 xB k) (A.oT (devX c) k)) $$ H6
  refine BIBase.Entails.trans ?_ (bigSep_mono fun k _ => h k)
  simp only [fam, bigSep_sep']; exact BIBase.Entails.rfl
theorem yOut_open : fam (yOut A c) ⊢ iprop(fam (fun k => atR c (.yr k) 1) ∗ fam (fun k => tilePts c (slot16 yB k) fullShare (A.pT (devY c) k))) := by
  unfold yOut; simp only [fam, bigSep_sep']; exact BIBase.Entails.rfl
theorem sOut_open : fam (sOut A c) ⊢ iprop(fam (fun k => atR c (.xs k) 1) ∗ fam (fun k => tilePts c (ownRows oA c k) fullShare (A.oT c k))) := by
  unfold sOut; simp only [fam, bigSep_sep']; exact BIBase.Entails.rfl
/-- The two slots' positions and buffers, as the tile loop wants them at its first turn. -/
theorem slots_open : iprop(fam2 (posIn2 (F := F) c) ∗ fam2 (mem2 (F := F) c)) ⊢ iprop((free c 0 ∗ free c 1 ∗ aL c 0 ∗ aL c 1)
    ∗ (oSlot c 0 ∗ oSlot c 1 ∗ aO c 0 ∗ aO c 1)) := by
  simp only [fam2, bigSep_fin_two, posIn2, mem2]
  refine (show iprop(((atR c (.pp 0) 0 ∗ atR c (.rr 0) 0 ∗ atR c (.oo 0) 0) ∗ (atR c (.pp 1) 0 ∗ atR c (.rr 1) 0 ∗ atR c (.oo 1) 0))
    ∗ (tileAny (F := F) c (slot2 pB 0) ∗ tileAny (F := F) c (slot2 rB 0) ∗ tileAny (F := F) c (slot2 oB 0))
    ∗ (tileAny (F := F) c (slot2 pB 1) ∗ tileAny (F := F) c (slot2 rB 1) ∗ tileAny (F := F) c (slot2 oB 1))) ⊢
    iprop(((tileAny (F := F) c (slot2 pB 0) ∗ tileAny (F := F) c (slot2 rB 0)) ∗ (tileAny (F := F) c (slot2 pB 1) ∗ tileAny (F := F) c (slot2 rB 1))
      ∗ (atR c (.pp 0) 0 ∗ atR c (.rr 0) 0) ∗ (atR c (.pp 1) 0 ∗ atR c (.rr 1) 0))
      ∗ (tileAny (F := F) c (slot2 oB 0) ∗ tileAny (F := F) c (slot2 oB 1) ∗ atR c (.oo 0) 0 ∗ atR c (.oo 1) 0)) from ?_)
  iintro ⟨⟨⟨P0, R0, O0⟩, P1, R1, O1⟩, ⟨p0, r0, o0⟩, p1, r1, o1⟩
  isplitl [P0 R0 P1 R1 p0 r0 p1 r1]
  · isplitl [p0 r0]
    · isplitl [p0] <;> iassumption
    isplitl [p1 r1]
    · isplitl [p1] <;> iassumption
    isplitl [P0 R0]
    · isplitl [P0] <;> iassumption
    isplitl [P1] <;> iassumption
  isplitl [o0]; · iexact o0
  isplitl [o1]; · iexact o1
  isplitl [O0] <;> iassumption
/-- And back after its last. -/
theorem slots_close : iprop((free c 16 ∗ free c 17 ∗ aL c 16 ∗ aL c 17)
    ∗ (tileAny (F := F) c (slot2 oB 0) ∗ tileAny (F := F) c (slot2 oB 1) ∗ atR c (.oo 0) 8 ∗ atR c (.oo 1) 8))
    ⊢ iprop(fam2 (posOut2 (F := F) c) ∗ fam2 (mem2 (F := F) c)) := by
  simp only [fam2, bigSep_fin_two, posOut2, mem2]
  refine (show iprop(((tileAny (F := F) c (slot2 pB 0) ∗ tileAny (F := F) c (slot2 rB 0)) ∗ (tileAny (F := F) c (slot2 pB 1) ∗ tileAny (F := F) c (slot2 rB 1))
      ∗ (atR c (.pp 0) 8 ∗ atR c (.rr 0) 8) ∗ (atR c (.pp 1) 8 ∗ atR c (.rr 1) 8))
      ∗ (tileAny (F := F) c (slot2 oB 0) ∗ tileAny (F := F) c (slot2 oB 1) ∗ atR c (.oo 0) 8 ∗ atR c (.oo 1) 8))
    ⊢ iprop(((atR c (.pp 0) 8 ∗ atR c (.rr 0) 8 ∗ atR c (.oo 0) 8) ∗ (atR c (.pp 1) 8 ∗ atR c (.rr 1) 8 ∗ atR c (.oo 1) 8))
    ∗ (tileAny (F := F) c (slot2 pB 0) ∗ tileAny (F := F) c (slot2 rB 0) ∗ tileAny (F := F) c (slot2 oB 0))
    ∗ (tileAny (F := F) c (slot2 pB 1) ∗ tileAny (F := F) c (slot2 rB 1) ∗ tileAny (F := F) c (slot2 oB 1))) from ?_)
  iintro ⟨⟨⟨p0, r0⟩, ⟨p1, r1⟩, ⟨P0, R0⟩, P1, R1⟩, o0, o1, O0, O1⟩
  isplitl [P0 R0 P1 R1 O0 O1]
  · isplitl [P0 R0 O0]
    · isplitl [P0]; · iexact P0
      isplitl [R0] <;> iassumption
    isplitl [P1]; · iexact P1
    isplitl [R1] <;> iassumption
  isplitl [p0 r0 o0]
  · isplitl [p0]; · iexact p0
    isplitl [r0] <;> iassumption
  isplitl [p1]; · iexact p1
  isplitl [r1] <;> iassumption

/-- The tile loop's last state, opened. -/
theorem tileInv_end : tileInv A c 16 ⊢ iprop(fam (loadOut A c) ∗ (free c 16 ∗ free c 17 ∗ aL c 16 ∗ aL c 17) ∗ fam (yOut A c)
    ∗ (oSlot c 16 ∗ oSlot c 17 ∗ aO c 16 ∗ aO c 17) ∗ stage (sIn c) (sOut A c) 14 ∗ gPts A c ∗ owesAny c 0) := by
  have hb : busy (F := F) c 16 = free c 16 := if_neg (by decide)
  unfold tileInv
  rw [hb, stage_all used (loadOut A c), stage_all (yIn c) (yOut A c), oweX_end]
  show iprop(_ ∗ _ ∗ free c 16 ∗ free c 17 ∗ aL c 16 ∗ aL c 17 ∗ _ ∗ oSlot c 16 ∗ oSlot c 17 ∗ aO c 16 ∗ aO c 17
    ∗ _ ∗ stage (sIn c) (sOut A c) 14 ∗ _ ∗ _) ⊢ _
  iintro ⟨-, HL, Hf, Hf1, Ha, Ha1, HY, Ho, Ho1, HaO, HaO1, -, HS, Hg, HO⟩
  isplitl [HL]; · iexact HL
  isplitl [Hf Hf1 Ha Ha1]
  · isplitl [Hf]; · iexact Hf
    isplitl [Hf1]; · iexact Hf1
    isplitl [Ha] <;> iassumption
  isplitl [HY]; · iexact HY
  isplitl [Ho Ho1 HaO HaO1]
  · isplitl [Ho]; · iexact Ho
    isplitl [Ho1]; · iexact Ho1
    isplitl [HaO] <;> iassumption
  isplitl [HS]; · iexact HS
  isplitl [Hg] <;> iassumption

/-! ## The body -/

/-- The handshake: the device hands its landing slots to its neighbours and takes theirs. -/
theorem meet_phase : does A ns c
    iprop(owesAny c (O₀ c) ∗ barIn c ∗ fam (fun k => tileAny (F := F) c (slot16 yB k)) ∗ fam (fun k => openR c (.yr k) 0)
      ∗ fam (fun k => tileAny (F := F) c (slot16 xB k)) ∗ fam (fun k => openR c (.xr k) 0))
    (fun K => signalTo (devY c) (signalTo (devX c) (waitBar K)))
    iprop(owesAny c (oweY c 0 + oweX c 0) ∗ atPos ER (cell c .bar) 1 ∅ 0
      ∗ (fam (fun k => tileAny (F := F) (devY c) (slot16 yB k)) ∗ fam (fun k => openR (devY c) (.yr k) 0))
      ∗ (fam (fun k => tileAny (F := F) (devX c) (slot16 xB k)) ∗ fam (fun k => openR (devX c) (.xr k) 0))) := fun K Q => by
  have hY := signal_rule A ns c (devY c) false (O₁ := O₀ c) rfl (signalTo (devX c) (waitBar K)) Q
  have hX := signal_rule A ns c (devX c) true (O₁ := oweY c 0 + oweX c 0 + tallyAt (cell (devX c) .bar) () 1) rfl (waitBar K) Q
  have hW := waitBar_rule A ns c (Above.add (Above.oweY c 0 (by decide)) (Above.oweX c 0 (by decide))) K Q
  have pY : iprop(fam (fun k => tileAny (F := F) c (slot16 yB k)) ∗ fam (fun k => openR c (.yr k) 0)) ⊢ payOf A (devY c) .bar 0 false := by
    show _ ⊢ giveSlots (devY (devY c)) (slot16 yB) .yr
    rw [devY_devY]; exact BIBase.Entails.rfl
  have pX : iprop(fam (fun k => tileAny (F := F) c (slot16 xB k)) ∗ fam (fun k => openR c (.xr k) 0)) ⊢ payOf A (devX c) .bar 0 true := by
    show _ ⊢ giveSlots (devX (devX c)) (slot16 xB) .xr
    rw [devX_devX]; exact BIBase.Entails.rfl
  have oY : giveSlots (F := F) (devY c) (slot16 yB) .yr ⊢ iprop(fam (fun k => tileAny (F := F) (devY c) (slot16 yB k)) ∗ fam (fun k => openR (devY c) (.yr k) 0)) :=
    Entails.of_eq rfl
  have oX : giveSlots (F := F) (devX c) (slot16 xB) .xr ⊢ iprop(fam (fun k => tileAny (F := F) (devX c) (slot16 xB k)) ∗ fam (fun k => openR (devX c) (.xr k) 0)) :=
    Entails.of_eq rfl
  unfold barIn
  iintro #He ⟨HO, ⟨⟨HtY, HrY⟩, ⟨HtX, HrX⟩, Hc, Hat⟩, HyS, HyR, HxS, HxR⟩ Hk
  iapply hY $$ He [HO HtY HrY HyS HyR]
  · isplitl [HO]; · iexact HO
    isplitl [HtY]; · iexact HtY
    isplitl [HyS HyR]
    · iapply pY
      isplitl [HyS]; · iexact HyS
      iexact HyR
    iexact HrY
  iintro HO
  iapply hX $$ He [HO HtX HrX HxS HxR]
  · isplitl [HO]; · iexact HO
    isplitl [HtX]; · iexact HtX
    isplitl [HxS HxR]
    · iapply pX
      isplitl [HxS]; · iexact HxS
      iexact HxR
    iexact HrX
  iintro HO
  iapply hW $$ He [Hc HO Hat]
  · isplitl [Hc]; · iexact Hc
    isplitl [HO]; · iexact HO
    iexact Hat
  iintro ⟨HO, Hat, HY, HX⟩
  iapply Hk
  isplitl [HO]; · iexact HO
  isplitl [Hat]; · iexact Hat
  isplitl [HY]
  · iapply oY $$ HY
  iapply oX $$ HX

theorem body_does (Q : PUnit → sProp 𝕄) : env A ns ⊢ iprop(Start A c -∗ (End A c -∗ Q ⟨⟩) -∗ run c (bodyOn c) Q) := by
  have meet := fun K => meet_phase A ns c K Q
  have send := fun K => ySend_phase A ns c K Q
  have tiles := fun K => tile_phase A ns c K Q
  have coll := fun K => collect_phase A ns c K Q
  have drain := fun K => drain_phase A ns c K Q
  have wxo := fun K => waitXo_phase A ns c K Q
  have wys := fun K => waitYs_phase A ns c K Q
  have oYs := fam_atR (F := F) c .ys 0
  have oYr := fam_atR (F := F) c .yr 0
  have oXs := fam_atR (F := F) c .xs 0
  have oXr := fam_atR (F := F) c .xr 0
  have oXo := fam_atR (F := F) c .xo 0
  have cYs := fam_atR' (F := F) c .ys 0
  have cYr := fam_atR' (F := F) c .yr 0
  have cXs := fam_atR' (F := F) c .xs 0
  have cXr := fam_atR' (F := F) c .xr 0
  have cXo := fam_atR' (F := F) c .xo 0
  have hsI : fam (fun k => atR (F := F) c (.xs k) 0) ⊢ fam (sIn c) := BIBase.Entails.rfl
  unfold Start End bodyOn
  iintro #He ⟨HO, Hbar, Ht, ⟨HcY, HcX⟩, ⟨Hpos, Hpos2⟩, Hmem, Hmem2, Hg⟩ Hk
  ihave Hmem' := (memIn_open A c) $$ Hmem
  icases Hmem' with ⟨Mp, Mr, Mo, Mo', My, Mx⟩
  ihave Ht' := (toks_open (F := F) c) $$ Ht
  icases Ht' with ⟨⟨TYs, TYr⟩, ⟨TXs, TXr⟩, Tp, Tr, To, TXo⟩
  ihave Hpos' := (posIn_open (F := F) c) $$ Hpos
  icases Hpos' with ⟨PYs, PYr, PXs, PXr, PXo⟩
  ihave PYs' := oYs $$ PYs
  icases PYs' with ⟨PYs, #RYs⟩
  ihave PYr' := oYr $$ PYr
  icases PYr' with ⟨PYr, #RYr⟩
  ihave PXs' := oXs $$ PXs
  icases PXs' with ⟨PXs, #RXs⟩
  ihave PXr' := oXr $$ PXr
  icases PXr' with ⟨PXr, #RXr⟩
  ihave PXo' := oXo $$ PXo
  icases PXo' with ⟨PXo, #RXo⟩
  ihave Hslots := (slots_open (F := F) c) $$ [Hpos2 Hmem2]
  · isplitl [Hpos2]; · iexact Hpos2
    iexact Hmem2
  icases Hslots with ⟨HL, HoS⟩
  iapply (meet _) $$ He [HO Hbar My Mx]
  · isplitl [HO]; · iexact HO
    isplitl [Hbar]; · iexact Hbar
    isplitl [My]; · iexact My
    isplitr; · iexact RYr
    isplitl [Mx]; · iexact Mx
    iexact RXr
  iintro ⟨HO, Hat, ⟨SY, RY⟩, SX, RX⟩
  iapply (send _) $$ He [Mp SY TYs TYr RY HO]
  · isplitl [Mp]; · iexact Mp
    isplitl [SY]; · iexact SY
    isplitl [TYs]; · iexact TYs
    isplitr; · iexact RYs
    isplitl [TYr]; · iexact TYr
    isplitl [RY]; · iexact RY
    iexact HO
  iintro ⟨Mp, DYs, HO⟩
  iapply (tiles _) $$ He [Mp Tp Mr Tr HL HcY PYr HoS SX TXs TXr RX Mo To PXs Hg HO]
  · isplitl [Mp Tp Mr Tr]
    · iapply (loadIn_close A c)
      isplitl [Mp]; · iexact Mp
      isplitl [Tp]; · iexact Tp
      isplitl [Mr]; · iexact Mr
      iexact Tr
    isplitl [HL]; · iexact HL
    isplitl [HcY PYr]
    · iapply (yIn_close (F := F) c)
      isplitl [HcY]; · iexact HcY
      iapply cYr
      isplitl [PYr]; · iexact PYr
      iexact RYr
    isplitl [HoS]; · iexact HoS
    isplitl [SX TXs TXr RX Mo To]
    · iapply (dIn_close (F := F) c)
      isplitl [SX]; · iexact SX
      isplitl [TXs]; · iexact TXs
      isplitr; · iexact RXs
      isplitl [TXr]; · iexact TXr
      isplitl [RX]; · iexact RX
      isplitl [Mo]; · iexact Mo
      iexact To
    isplitl [PXs]
    · iapply hsI
      iapply cXs
      isplitl [PXs]; · iexact PXs
      iexact RXs
    isplitl [Hg]; · iexact Hg
    iexact HO
  iintro Hinv
  ihave Hinv' := (tileInv_end A c) $$ Hinv
  icases Hinv' with ⟨HLo, HL, HY, HoS, HS, Hg, HO⟩
  iapply (coll _) $$ He [HcX PXr Mo' TXo HO]
  · isplitl [HcX]; · iexact HcX
    isplitl [PXr]
    · iapply cXr
      isplitl [PXr]; · iexact PXr
      iexact RXr
    isplitl [Mo']; · iexact Mo'
    isplitl [TXo]; · iexact TXo
    isplitr; · iexact RXo
    iexact HO
  iintro ⟨DXo, AXr, HO⟩
  iapply (drain _) $$ He [HoS HS HO]
  · isplitl [HoS]; · iexact HoS
    isplitl [HS]; · iexact HS
    iexact HO
  iintro ⟨HoS, HsO, HO⟩
  iapply (wxo _) $$ He [DXo PXo HO]
  · isplitl [DXo]; · iexact DXo
    isplitl [PXo]
    · iapply cXo
      isplitl [PXo]; · iexact PXo
      iexact RXo
    iexact HO
  iintro ⟨AXo, Moo, Mx, HO⟩
  iapply (wys _) $$ He [DYs PYs HO]
  · isplitl [DYs]; · iexact DYs
    isplitl [PYs]
    · iapply cYs
      isplitl [PYs]; · iexact PYs
      iexact RYs
    iexact HO
  iintro ⟨AYs, Ml, HO⟩
  ihave HY' := (yOut_open A c) $$ HY
  icases HY' with ⟨AYr, My⟩
  ihave HsO' := (sOut_open A c) $$ HsO
  icases HsO' with ⟨AXs, Mown⟩
  ihave Hslots := (slots_close (F := F) c) $$ [HL HoS]
  · isplitl [HL]; · iexact HL
    iexact HoS
  icases Hslots with ⟨Hpos2, Hmem2⟩
  have hret : Q ⟨⟩ ⊢ run c (.ret ⟨⟩) Q := by
    unfold run; rw [wp_ret]; exact fupd_intro
  iapply hret
  iapply Hk
  isplitl [HO]; · iexact HO
  isplitl [Hat]; · iexact Hat
  isplitl [AYs AYr AXs AXr AXo Hpos2]
  · isplitl [AYs AYr AXs AXr AXo]
    · iapply (posOut_close (F := F) c)
      isplitl [AYs]; · iexact AYs
      isplitl [AYr]; · iexact AYr
      isplitl [AXs]; · iexact AXs
      isplitl [AXr]; · iexact AXr
      iexact AXo
    iexact Hpos2
  isplitl [Ml HLo Mown Moo My Mx]
  · iapply (memOut_close A c)
    isplitl [Ml]; · iexact Ml
    isplitl [HLo]; · iexact HLo
    isplitl [Mown]; · iexact Mown
    isplitl [Moo]; · iexact Moo
    isplitl [My]; · iexact My
    iexact Mx
  isplitl [Hmem2]; · iexact Hmem2
  iexact Hg

end Cert.KernelIdeal.Fused
-- ==== Proof.KI.Memory.lean ====
/-
  One device's memory around its body: the arrays and the landing buffers cut into the tiles the body works on, and put
  together again after it.

  `outAll A c` is the output array of device `c`: on its own half of the rows the tiles it computes itself, on the other half
  the tiles its row neighbour computes.
-/
module

public import proofs.«01_k».proof.Proof.KI.Body
public import proofs.«01_k».proof.Proof.Gen.KernelIdeal.Frame
public import Idealize.ShloMosaic.Lib.Pipeline.RegionTalk

@[expose] public section

noncomputable section

namespace Cert.KernelIdeal.Fused

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (A : Inputs F) (c : Dev nD)

/-! ## The output array -/

/-- The place of a row and a column within their tile. -/
def inTile (i : S2048x2048.Idx) : S64x2048.Idx := fun a =>
  match a with
  | ⟨0, _⟩ => ⟨(i 0).val % 64, Nat.mod_lt _ (by decide)⟩
  | ⟨1, _⟩ => ⟨(i 1).val, (i 1).isLt⟩

/-- The tile, of its half, that a row lies in. -/
def tileAt (i : S2048x2048.Idx) : Fin 16 := ⟨(i 0).val % 1024 / 64, by omega⟩

/-- The output array of device `c`. -/
def outAll : Vec F S2048x2048 .f32 := fun i =>
  if (i 0).val / 1024 = c.val / 2 then A.oT c (tileAt i) (inTile i) else A.oT (devX c) (tileAt i) (inTile i)

theorem inTile_eq (i : S2048x2048.Idx) (j : S64x2048.Idx) (h0 : (i 0).val % 64 = (j 0).val) (h1 : (i 1).val = (j 1).val) :
    inTile i = j := by
  funext a
  match a with
  | ⟨0, _⟩ => exact Fin.ext h0
  | ⟨1, _⟩ => exact Fin.ext h1

theorem read_own (k : Fin 16) : (ownRows oA c k).view.read (Elt F) (outAll A c) = A.oT c k := by
  funext j
  let r : Rect S2048x2048 := Rect.unit (s := S2048x2048) (k0_off1 c (BitVec.ofNat 32 (64 * k.val))) S64x2048.size (k0_off1_inb c k)
  have e0 : (r.idx j 0).val = 1024 * (c.val / 2) + 64 * k.val + (j 0).val := by
    have := congrFun (k0_off1_eq c k) 0
    show k0_off1 c (BitVec.ofNat 32 (64 * k.val)) 0 + 1 * (j 0).val = _
    rw [this]; show 1024 * (c.val / 2) + 64 * k.val + 1 * (j 0).val = _; omega
  have e1 : (r.idx j 1).val = (j 1).val := by
    have := congrFun (k0_off1_eq c k) 1
    show k0_off1 c (BitVec.ofNat 32 (64 * k.val)) 1 + 1 * (j 1).val = _
    rw [this]; show 0 + 1 * (j 1).val = _; omega
  have hk := k.isLt
  have hj : (j 0).val < 64 := (j 0).isLt
  have hd : c.val < 4 := c.isLt
  show outAll A c (r.idx j) = A.oT c k j
  unfold outAll
  rw [if_pos (by omega), inTile_eq (r.idx j) j (by omega) e1, show tileAt (r.idx j) = k from Fin.ext (by show (r.idx j 0).val % 1024 / 64 = _; omega)]

theorem read_other (k : Fin 16) : (otherRows oA c k).view.read (Elt F) (outAll A c) = A.oT (devX c) k := by
  funext j
  let r : Rect S2048x2048 := Rect.unit (s := S2048x2048) (k0_off2 c (BitVec.ofNat 32 (64 * k.val))) S64x2048.size (k0_off2_inb c k)
  have hk := k.isLt
  have hj : (j 0).val < 64 := (j 0).isLt
  have hd : c.val < 4 := c.isLt
  have e0 : (r.idx j 0).val = (64 * k.val + 1024) - 1024 * (c.val / 2) + (j 0).val := by
    have := congrFun (k0_off2_eq c k) 0
    show k0_off2 c (BitVec.ofNat 32 (64 * k.val)) 0 + 1 * (j 0).val = _
    rw [this]; show (64 * k.val + 1024) - 1024 * (c.val / 2) + 1 * (j 0).val = _; omega
  have e1 : (r.idx j 1).val = (j 1).val := by
    have := congrFun (k0_off2_eq c k) 1
    show k0_off2 c (BitVec.ofNat 32 (64 * k.val)) 1 + 1 * (j 1).val = _
    rw [this]; show 0 + 1 * (j 1).val = _; omega
  show outAll A c (r.idx j) = A.oT (devX c) k j
  unfold outAll
  rw [if_neg (by omega), inTile_eq (r.idx j) j (by omega) e1, show tileAt (r.idx j) = k from Fin.ext (by show (r.idx j 0).val % 1024 / 64 = _; omega)]

/-! ## The memory, whole and cut -/

/-- A buffer of the device at `f`; at some contents. -/
abbrev pts (b : Ref sig .tc) (f : Buf (Elt F) ((c : Thread nD τ).loc b)) : sProp 𝕄 := ((c : Thread nD τ).loc b) ↦{fullShare} f
abbrev ptsAny (b : Ref sig .tc) : sProp 𝕄 := iprop(∃ f : Buf (Elt F) ((c : Thread nD τ).loc b), pts c b f)

/-- The arrays the body works on, the output at `o`. -/
def arrays (o : Vec F S2048x2048 .f32) : sProp 𝕄 :=
  iprop(pts c main_v1 (A.p c) ∗ pts c main_arg1 (A.r c) ∗ pts c main_v3 o)
/-- The landing buffers, at some contents. -/
def scratch : sProp 𝕄 :=
  iprop(ptsAny (F := F) c cc0_scratch0 ∗ ptsAny (F := F) c cc0_scratch1 ∗ ptsAny (F := F) c cc0_scratch2
    ∗ ptsAny (F := F) c cc0_scratch3 ∗ ptsAny (F := F) c cc0_scratch4)
/-- The rows of the inputs the body doesn't touch. -/
def idle : sProp 𝕄 :=
  iprop(fam (fun k => tilePts c (otherRows pA c k) fullShare ((otherRows pA c k).view.read (Elt F) (A.p c)))
    ∗ fam (fun k => tilePts c (otherRows rA c k) fullShare ((otherRows rA c k).view.read (Elt F) (A.r c))))

theorem memIn_close : iprop(fam (fun k => tilePts c (ownRows pA c k) fullShare (A.pT c k))
    ∗ fam (fun k => tilePts c (ownRows rA c k) fullShare (A.rT c k)) ∗ fam (fun k => tileAny (F := F) c (ownRows oA c k))
    ∗ fam (fun k => tileAny (F := F) c (otherRows oA c k)) ∗ fam (fun k => tileAny (F := F) c (slot16 yB k))
    ∗ fam (fun k => tileAny (F := F) c (slot16 xB k))) ⊢ fam (memIn A c) := by
  unfold memIn; simp only [fam, bigSep_sep']; exact BIBase.Entails.rfl
theorem memOut_open : fam (memOut A c) ⊢ iprop(fam (fun k => tilePts c (ownRows pA c k) fullShare (A.pT c k))
    ∗ fam (fun k => tilePts c (ownRows rA c k) fullShare (A.rT c k)) ∗ fam (fun k => tilePts c (ownRows oA c k) fullShare (A.oT c k))
    ∗ fam (fun k => tilePts c (otherRows oA c k) fullShare (A.oT (devX c) k)) ∗ fam (fun k => tileAny (F := F) c (slot16 yB k))
    ∗ fam (fun k => tileAny (F := F) c (slot16 xB k))) := by
  unfold memOut; simp only [fam, bigSep_sep']; exact BIBase.Entails.rfl
theorem mem2_eq : fam2 (mem2 (F := F) c) = iprop(fam2 (fun s => tileAny (F := F) c (slot2 pB s)) ∗ fam2 (fun s => tileAny (F := F) c (slot2 rB s))
    ∗ fam2 (fun s => tileAny (F := F) c (slot2 oB s))) := by
  unfold mem2; simp only [fam2, bigSep_sep']

theorem tiles_any (M : Fin 16 → Memref sig .tc .hbm S64x2048 .f32) (T : Fin 16 → Tile F) :
    fam (fun k => tilePts c (M k) fullShare (T k)) ⊢ fam (fun k => tileAny (F := F) c (M k)) :=
  bigSep_mono fun k _ => tilePts_any c (M k) (T k)

/-- What a device's memory is cut into for its body. -/
theorem memory_cut (o : Vec F S2048x2048 .f32) : iprop(arrays A c o ∗ scratch (F := F) c)
    ⊢ iprop(fam (memIn A c) ∗ fam2 (mem2 (F := F) c) ∗ idle A c) := by
  have hp := rows_cut c pA (View.set_whole _) (A.p c)
  have hr := rows_cut c rA (View.set_whole _) (A.r c)
  have ho := rows_cut c oA (View.set_whole _) o
  have hy : ptsAny (F := F) c cc0_scratch0 ⊢ fam (fun k => tileAny (F := F) c (slot16 yB k)) :=
    slots_cut c yB (View.set_whole _) rect16 (fun _ _ => rfl) rect16_disjoint rect16_cover fun _ => squeezes_S1x64x2048_S64x2048
  have hx : ptsAny (F := F) c cc0_scratch1 ⊢ fam (fun k => tileAny (F := F) c (slot16 xB k)) :=
    slots_cut c xB (View.set_whole _) rect16 (fun _ _ => rfl) rect16_disjoint rect16_cover fun _ => squeezes_S1x64x2048_S64x2048
  have h2 : ptsAny (F := F) c cc0_scratch2 ⊢ fam2 (fun k => tileAny (F := F) c (slot2 pB k)) :=
    slots_cut c pB (View.set_whole _) rect2 (fun _ _ => rfl) rect2_disjoint rect2_cover fun _ => squeezes_S1x64x2048_S64x2048
  have h3 : ptsAny (F := F) c cc0_scratch3 ⊢ fam2 (fun k => tileAny (F := F) c (slot2 rB k)) :=
    slots_cut c rB (View.set_whole _) rect2 (fun _ _ => rfl) rect2_disjoint rect2_cover fun _ => squeezes_S1x64x2048_S64x2048
  have h4 : ptsAny (F := F) c cc0_scratch4 ⊢ fam2 (fun k => tileAny (F := F) c (slot2 oB k)) :=
    slots_cut c oB (View.set_whole _) rect2 (fun _ _ => rfl) rect2_disjoint rect2_cover fun _ => squeezes_S1x64x2048_S64x2048
  rw [mem2_eq]
  unfold arrays scratch idle
  iintro ⟨⟨Hp, Hr, Ho⟩, Hy, Hx, H2, H3, H4⟩
  ihave Hp := hp $$ Hp
  icases Hp with ⟨Hp, Hp'⟩
  ihave Hr := hr $$ Hr
  icases Hr with ⟨Hr, Hr'⟩
  ihave Ho := ho $$ Ho
  icases Ho with ⟨Ho, Ho'⟩
  isplitl [Hp Hr Ho Ho' Hy Hx]
  · iapply (memIn_close A c)
    isplitl [Hp]; · iexact Hp
    isplitl [Hr]; · iexact Hr
    isplitl [Ho]; · iapply (tiles_any c (fun k => ownRows oA c k) _) $$ Ho
    isplitl [Ho']; · iapply (tiles_any c (fun k => otherRows oA c k) _) $$ Ho'
    isplitl [Hy]; · iapply hy $$ Hy
    iapply hx $$ Hx
  isplitl [H2 H3 H4]
  · isplitl [H2]; · iapply h2 $$ H2
    isplitl [H3]; · iapply h3 $$ H3
    iapply h4 $$ H4
  isplitl [Hp'] <;> iassumption

/-- What the body leaves is the memory again, the output array filled. -/
theorem memory_join : iprop(fam (memOut A c) ∗ fam2 (mem2 (F := F) c) ∗ idle A c)
    ⊢ iprop(arrays A c (outAll A c) ∗ scratch (F := F) c) := by
  have hp := rows_join c pA (View.set_whole _) (A.p c)
  have hr := rows_join c rA (View.set_whole _) (A.r c)
  have ho : iprop(fam (fun k => tilePts c (ownRows oA c k) fullShare (A.oT c k))
      ∗ fam (fun k => tilePts c (otherRows oA c k) fullShare (A.oT (devX c) k))) ⊢ (pts c main_v3 (outAll A c) : sProp 𝕄) := by
    rw [show A.oT c = fun k => (ownRows oA c k).view.read (Elt F) (outAll A c) from funext fun k => (read_own A c k).symm,
      show A.oT (devX c) = fun k => (otherRows oA c k).view.read (Elt F) (outAll A c) from funext fun k => (read_other A c k).symm]
    exact rows_join c oA (View.set_whole _) (outAll A c)
  haveI hne : Nonempty (Elt F .f32) := ⟨A.p c fun a => ⟨0, by fin_cases a <;> decide⟩⟩
  haveI h16 : Nonempty (S16x64x2048.Idx → Elt F .f32) := ⟨fun _ => hne.some⟩
  haveI h2s : Nonempty (S2x64x2048.Idx → Elt F .f32) := ⟨fun _ => hne.some⟩
  have hy : fam (fun k => tileAny (F := F) c (slot16 yB k)) ⊢ ptsAny (F := F) c cc0_scratch0 :=
    haveI : Nonempty (Buf (Elt F) (yB.view.loc (c : Thread nD τ))) := h16
    slots_join c yB (View.set_whole _) rect16 (fun _ _ => rfl) rect16_disjoint rect16_cover fun _ => squeezes_S1x64x2048_S64x2048
  have hx : fam (fun k => tileAny (F := F) c (slot16 xB k)) ⊢ ptsAny (F := F) c cc0_scratch1 :=
    haveI : Nonempty (Buf (Elt F) (xB.view.loc (c : Thread nD τ))) := h16
    slots_join c xB (View.set_whole _) rect16 (fun _ _ => rfl) rect16_disjoint rect16_cover fun _ => squeezes_S1x64x2048_S64x2048
  have h2 : fam2 (fun k => tileAny (F := F) c (slot2 pB k)) ⊢ ptsAny (F := F) c cc0_scratch2 :=
    haveI : Nonempty (Buf (Elt F) (pB.view.loc (c : Thread nD τ))) := h2s
    slots_join c pB (View.set_whole _) rect2 (fun _ _ => rfl) rect2_disjoint rect2_cover fun _ => squeezes_S1x64x2048_S64x2048
  have h3 : fam2 (fun k => tileAny (F := F) c (slot2 rB k)) ⊢ ptsAny (F := F) c cc0_scratch3 :=
    haveI : Nonempty (Buf (Elt F) (rB.view.loc (c : Thread nD τ))) := h2s
    slots_join c rB (View.set_whole _) rect2 (fun _ _ => rfl) rect2_disjoint rect2_cover fun _ => squeezes_S1x64x2048_S64x2048
  have h4 : fam2 (fun k => tileAny (F := F) c (slot2 oB k)) ⊢ ptsAny (F := F) c cc0_scratch4 :=
    haveI : Nonempty (Buf (Elt F) (oB.view.loc (c : Thread nD τ))) := h2s
    slots_join c oB (View.set_whole _) rect2 (fun _ _ => rfl) rect2_disjoint rect2_cover fun _ => squeezes_S1x64x2048_S64x2048
  have hopen := memOut_open A c
  rw [mem2_eq]
  unfold arrays scratch idle
  iintro ⟨H, ⟨H2, H3, H4⟩, ⟨Hp', Hr'⟩⟩
  ihave H := hopen $$ H
  icases H with ⟨Hp, Hr, Ho, Ho', Hy, Hx⟩
  isplitl [Hp Hp' Hr Hr' Ho Ho']
  · isplitl [Hp Hp']
    · iapply hp
      isplitl [Hp]; · iexact Hp
      iexact Hp'
    isplitl [Hr Hr']
    · iapply hr
      isplitl [Hr]; · iexact Hr
      iexact Hr'
    iapply ho
    isplitl [Ho]; · iexact Ho
    iexact Ho'
  isplitl [Hy]; · iapply hy $$ Hy
  isplitl [Hx]; · iapply hx $$ Hx
  isplitl [H2]; · iapply h2 $$ H2
  isplitl [H3]; · iapply h3 $$ H3
  iapply h4 $$ H4

end Cert.KernelIdeal.Fused
-- ==== Proof.KI.Region.lean ====
/-
  The kernel's call as a stage of the program: what it is entered with, what it leaves, and that its body does so.

  A device's counters are brought to zero again before the body ends: every cell's rounds are all taken by then, so its
  invariant gives the counter back.
-/
module

public import proofs.«01_k».proof.Proof.KI.Memory

@[expose] public section

noncomputable section

namespace Cert.KernelIdeal.Fused

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

/-! ## The cells, opened and closed -/

section Cells

variable (A : Inputs F) (ns : GSem nD τ sig → ℕ) (c : Dev nD)

theorem ownKind_inj : Function.Injective ownKind := fun _ _ h => Sum.inr.inj (kindEquiv.injective h)
instance : DecidableEq OwnSum := fun x y => decidable_of_iff (ownKind x = ownKind y) ownKind_inj.eq_iff

/-- A device's own semaphores, and its counters on them at zero. -/
abbrev osem (x : OwnSum) : SemLoc sig := semOf (ownKind x)

theorem ownSems_eq : (Pipeline.ownSems0 osem c : sProp 𝕄) = bigSep Finset.univ fun x : OwnSum => semVal (cell c (ownKind x)) 0 := rfl

/-- Every cell's invariant. -/
def invs : sProp 𝕄 := bigSep Finset.univ fun x : Dev nD × Kind => cellInv ER (talkRd A) (ns (cell x.1 x.2)) (cell x.1 x.2)
instance invs_persistent : BI.Persistent (invs A ns) := by unfold invs; infer_instance

theorem invs_at (e : Dev nD) (κ : Kind) : invs A ns ⊢ cellInv ER (talkRd A) (ns (cell e κ)) (cell e κ) := by
  unfold invs
  exact bigSep_elim (Φ := fun x : Dev nD × Kind => cellInv ER (talkRd A) (ns (cell x.1 x.2)) (cell x.1 x.2)) (Finset.mem_univ (e, κ))

/-- A family over a device's own cells, by kind. -/
theorem own_split (Φ : Kind → sProp 𝕄) : (bigSep Finset.univ fun x : OwnSum => Φ (ownKind x))
    = iprop(fam (fun k => Φ (.ys k)) ∗ fam (fun k => Φ (.yr k)) ∗ fam (fun k => Φ (.xs k)) ∗ fam (fun k => Φ (.xr k))
      ∗ fam2 (fun s => Φ (.pp s)) ∗ fam2 (fun s => Φ (.rr s)) ∗ fam2 (fun s => Φ (.oo s)) ∗ fam (fun k => Φ (.xo k))) := by
  simp only [bigSep_univ_sum]
  rfl

theorem cell_opens (x : OwnSum) : iprop(invs A ns ∗ (openTok ER (cell c (ownKind x)) ∗ semVal (cell c (ownKind x)) 0))
    ⊢ (iprop(|={Set.univ}=> atR c (ownKind x) 0) : sProp 𝕄) := by
  have hi := invs_at A ns c (ownKind x)
  have ho := Rounds.cell_open ER (talkRd A) (g := cell c (ownKind x)) (Set.mem_univ (ns (cell c (ownKind x))))
  unfold atR
  iintro ⟨#HI, Ho, Hv⟩
  iapply ho
  isplitr; · iapply hi $$ HI
  isplitl [Ho] <;> iassumption

theorem cell_closes (κ : Kind) : iprop(invs A ns ∗ atPos ER (cell c κ) (roundsOf κ) ∅ 0)
    ⊢ (iprop(|={Set.univ}=> semVal (cell c κ) 0) : sProp 𝕄) := by
  have hi := invs_at A ns c κ
  have hc := Rounds.cell_close ER (talkRd A) (g := cell c κ) (Set.mem_univ (ns (cell c κ))) (fun h => h)
    (R := roundsOf κ) (fun r hr => by rw [duties_cell]; exact dutiesOf_later κ hr)
  iintro ⟨#HI, Ha⟩
  iapply hc
  isplitr; · iapply hi $$ HI
  iexact Ha

theorem posIn_close : iprop(fam (fun k => atR c (.ys k) 0) ∗ fam (fun k => atR c (.yr k) 0)
    ∗ fam (fun k => atR c (.xs k) 0) ∗ fam (fun k => atR c (.xr k) 0) ∗ fam (fun k => atR c (.xo k) 0)) ⊢ fam (posIn (F := F) c) := by
  unfold posIn; simp only [fam, bigSep_sep']; exact BIBase.Entails.rfl
theorem posIn2_close : iprop(fam2 (fun s => atR c (.pp s) 0) ∗ fam2 (fun s => atR c (.rr s) 0) ∗ fam2 (fun s => atR c (.oo s) 0))
    ⊢ fam2 (posIn2 (F := F) c) := by
  unfold posIn2; simp only [fam2, bigSep_sep']; exact BIBase.Entails.rfl
theorem posOut_open : fam (posOut (F := F) c) ⊢ iprop(fam (fun k => atR c (.ys k) 1) ∗ fam (fun k => atR c (.yr k) 1)
    ∗ fam (fun k => atR c (.xs k) 1) ∗ fam (fun k => atR c (.xr k) 1) ∗ fam (fun k => atR c (.xo k) 1)) := by
  unfold posOut; simp only [fam, bigSep_sep']; exact BIBase.Entails.rfl
theorem posOut2_open : fam2 (posOut2 (F := F) c)
    ⊢ iprop(fam2 (fun s => atR c (.pp s) 8) ∗ fam2 (fun s => atR c (.rr s) 8) ∗ fam2 (fun s => atR c (.oo s) 8)) := by
  unfold posOut2; simp only [fam2, bigSep_sep']; exact BIBase.Entails.rfl

/-- The rights to open a device's own cells and the counters at zero open them all. -/
theorem own_opens : iprop(invs A ns ∗ (bigSep Finset.univ fun x : OwnSum => openTok ER (cell c (ownKind x))) ∗ Pipeline.ownSems0 osem c)
    ⊢ (iprop(|={Set.univ}=> (fam (posIn c) ∗ fam2 (posIn2 c))) : sProp 𝕄) := by
  have h1 : iprop(invs A ns ∗ bigSep Finset.univ fun x : OwnSum => iprop(openTok ER (cell c (ownKind x)) ∗ semVal (cell c (ownKind x)) 0))
      ⊢ (bigSep Finset.univ fun x : OwnSum => iprop(|={Set.univ}=> atR c (ownKind x) 0) : sProp 𝕄) :=
    bigSep_with_persistent (R := invs A ns) (Φ := fun x : OwnSum => iprop(openTok ER (cell c (ownKind x)) ∗ semVal (cell c (ownKind x)) 0))
      fun x _ => cell_opens A ns c x
  have h2 : (bigSep Finset.univ fun x : OwnSum => iprop(|={Set.univ}=> atR c (ownKind x) 0) : sProp 𝕄)
      ⊢ |={Set.univ}=> bigSep Finset.univ fun x : OwnSum => atR c (ownKind x) 0 := bigSep_fupd _ _
  have h3 := Entails.of_eq (own_split (F := F) (fun κ => atR c κ 0))
  have hpos := posIn_close (F := F) c
  have hpos2 := posIn2_close (F := F) c
  rw [bigSep_sep'] at h1
  rw [ownSems_eq]
  iintro ⟨#HI, Ho, Hv⟩
  ihave H := h1 $$ [Ho Hv]
  · isplitr; · iexact HI
    isplitl [Ho]; · iexact Ho
    iexact Hv
  ihave H := h2 $$ H
  imod H with H
  imodintro
  ihave H := h3 $$ H
  icases H with ⟨H1, H2, H3, H4, H5, H6, H7, H8⟩
  isplitr [H5 H6 H7]
  · iapply hpos
    isplitl [H1]; · iexact H1
    isplitl [H2]; · iexact H2
    isplitl [H3]; · iexact H3
    isplitl [H4]; · iexact H4
    iexact H8
  iapply hpos2
  isplitl [H5]; · iexact H5
  isplitl [H6]; · iexact H6
  iexact H7

/-- A device's own cells with every round taken give its counters back at zero. -/
theorem own_closes : iprop(invs A ns ∗ fam (posOut (F := F) c) ∗ fam2 (posOut2 (F := F) c))
    ⊢ (iprop(|={Set.univ}=> Pipeline.ownSems0 osem c) : sProp 𝕄) := by
  have h1 : iprop(invs A ns ∗ bigSep Finset.univ fun x : OwnSum => atR (F := F) c (ownKind x) (roundsOf (ownKind x)))
      ⊢ (bigSep Finset.univ fun x : OwnSum => iprop(|={Set.univ}=> semVal (cell c (ownKind x)) 0) : sProp 𝕄) :=
    bigSep_with_persistent (R := invs A ns) (Φ := fun x : OwnSum => atR (F := F) c (ownKind x) (roundsOf (ownKind x))) fun x _ => by
      have h := cell_closes A ns c (ownKind x)
      unfold atR
      iintro ⟨#HI, Ha, -⟩
      iapply h
      isplitr; · iexact HI
      iexact Ha
  have h2 : (bigSep Finset.univ fun x : OwnSum => iprop(|={Set.univ}=> semVal (cell c (ownKind x)) 0) : sProp 𝕄)
      ⊢ |={Set.univ}=> bigSep Finset.univ fun x : OwnSum => semVal (cell c (ownKind x)) 0 := bigSep_fupd _ _
  have h3 := Entails.of_eq (own_split (F := F) (fun κ => atR c κ (roundsOf κ))).symm
  have hpos := posOut_open (F := F) c
  have hpos2 := posOut2_open (F := F) c
  rw [ownSems_eq]
  iintro ⟨#HI, H, H'⟩
  ihave H := hpos $$ H
  icases H with ⟨H1, H2, H3, H4, H8⟩
  ihave H' := hpos2 $$ H'
  icases H' with ⟨H5, H6, H7⟩
  ihave H := h3 $$ [H1 H2 H3 H4 H5 H6 H7 H8]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  ihave H := h1 $$ [H]
  · isplitr; · iexact HI
    iexact H
  ihave H := h2 $$ H
  imod H with H
  imodintro
  iexact H

end Cells

/-! ## The data of the call -/

variable (m : (ℓ : Loc nD τ sig) → Buf (Elt F) ℓ)

/-- What the kernel is entered with, out of the program's initial memory. -/
def ins : Inputs F where
  p c := V m c main_v1
  r c := V m c main_arg1
  g c := iblk m c 0 t0_0

/-- What a device is dealt at launch: its rights at the barrier, the tokens of what it pays, the credits of what it waits for. -/
def rights (c : Dev nD) : sProp 𝕄 :=
  iprop(barIn c ∗ fam (toks c) ∗ (fam (fun k => due c (.yr k)) ∗ fam (fun k => due c (.xr k))))
/-- What it holds of the protocol before the call; what it enters the body with; what is left of it. -/
def Tk (c : Dev nD) : sProp 𝕄 :=
  iprop((∃ ns, invs (ins m) ns) ∗ rights (F := F) c ∗ bigSep Finset.univ fun x : OwnSum => openTok ER (cell c (ownKind x)))
def Xk (c : Dev nD) : sProp 𝕄 :=
  iprop((∃ ns, env (ins m) ns) ∗ rights (F := F) c ∗ (fam (posIn c) ∗ fam2 (posIn2 c)))
def Yk (c : Dev nD) : sProp 𝕄 := semVal (cell c .bar) 0

/-- The invariant of the call's one point, before it and after it. -/
def before (c : Dev nD) : sProp 𝕄 :=
  iprop(Xk m c ∗ arrays (ins m) c (V m c main_v3) ∗ scratch (F := F) c ∗ ∃ r, prngReg c r)
def after (c : Dev nD) : sProp 𝕄 :=
  iprop((Yk (F := F) c ∗ Pipeline.ownSems0 osem c) ∗ arrays (ins m) c (outAll (ins m) c) ∗ scratch (F := F) c ∗ ∃ r, prngReg c r)

def dat (c : Dev nD) : Dat τ (Elt F) Unit ℕ UU ℕ cfg0 c where
  A w := V m c (Pipeline.arrRef spec0 w)
  after w _ := match w with
    | ⟨0, _⟩ => (ins m).g c
  Φ t := if t.val = 0 then before m c else after m c
  q _ := fullShare
  owed t := if t.val = 0 then O₀ c else 0

abbrev adm : (p : Fin 1) → (pcfgs (F := F) p).Adm := fun p => (cfgs p).toPCfg_adm
def dats (_ : Fin 1) (c : Dev nD) : Dat τ (Elt F) Unit ℕ UU ℕ cfg0 c := dat m c

theorem owed_at (c : Dev nD) (t : Fin (cfg0.N + 1)) : (dat m c).owed t = if t.val = 0 then O₀ c else 0 := rfl
theorem Φ_at (c : Dev nD) (t : Fin (cfg0.N + 1)) : (dat m c).Φ t = if t.val = 0 then before m c else after m c := rfl
theorem last_ne : (Fin.last cfg0.N).val ≠ 0 := by rw [Fin.val_last, show cfg0.N = 1 from N_0]; decide
theorem owed_zero (c : Dev nD) : (dat m c).owed 0 = O₀ c := (owed_at m c 0).trans (if_pos rfl)
theorem owed_first (c : Dev nD) : (dat m c).owed t0_0.castSucc = O₀ c := (owed_at m c _).trans (if_pos rfl)
theorem owed_succ (c : Dev nD) : (dat m c).owed t0_0.succ = 0 := (owed_at m c _).trans (if_neg (Nat.succ_ne_zero _))
theorem owed_last (c : Dev nD) : (dat m c).owed (Fin.last _) = 0 := (owed_at m c _).trans (if_neg last_ne)
theorem Φ_zero (c : Dev nD) : (dat m c).Φ 0 = before m c := (Φ_at m c 0).trans (if_pos rfl)
theorem Φ_first (c : Dev nD) : (dat m c).Φ t0_0.castSucc = before m c := (Φ_at m c _).trans (if_pos rfl)
theorem Φ_succ (c : Dev nD) : (dat m c).Φ t0_0.succ = after m c := (Φ_at m c _).trans (if_neg (Nat.succ_ne_zero _))
theorem Φ_last (c : Dev nD) : (dat m c).Φ (Fin.last _) = after m c := (Φ_at m c _).trans (if_neg last_ne)

theorem owes_in (c : Dev nD) (t : Fin (cfg0.N + 1)) (O : CellTallies nD τ sig Unit) (h : (dat m c).owed t = O) :
    owesAny (F := F) c O ⊢ (dat m c).owesAt () t := by
  unfold owesAny Dat.owesAt Pipeline.owesWithin Dat.bound
  rw [h]
  iintro ⟨%W, H⟩
  iexists W
  isplitr; · ipureintro; exact fun _ _ => Or.inl trivial
  iexact H
theorem owes_out (c : Dev nD) (t : Fin (cfg0.N + 1)) (O : CellTallies nD τ sig Unit) (h : (dat m c).owed t = O) :
    (dat m c).owesAt () t ⊢ owesAny (F := F) c O := by
  unfold owesAny Dat.owesAt Pipeline.owesWithin
  rw [h]
  iintro ⟨%W, -, H⟩
  iexists W; iexact H

/-! ## The body -/

theorem run_fupd (c : Dev nD) (K : TcProg F) (Q : PUnit → sProp 𝕄) :
    run c K (fun a => iprop(|={Set.univ}=> Q a)) ⊢ run c K Q := by
  unfold run; exact wp_fupd _ _ _ K Q

/-- The run of the body between the call's two points. -/
theorem body_runs (c : Dev nD) (Q : PUnit → sProp 𝕄) :
    iprop(before m c ∗ owesAny c (O₀ c) ∗ gPts (ins m) c) ⊢
      iprop((after m c ∗ owesAny c 0 ∗ gPts (ins m) c -∗ Q ⟨⟩) -∗ run c (bodyOn c) Q) := by
  have hcut := memory_cut (ins m) c (V m c main_v3)
  have hjoin := memory_join (ins m) c
  have hupd := run_fupd c (bodyOn c) Q
  unfold before Xk rights
  iintro ⟨⟨⟨⟨%ns, #HE⟩, ⟨Hb, Ht, Hd⟩, Hpos⟩, Har, Hsc, Hreg⟩, HO, Hg⟩ Hk
  have hbody := body_does (ins m) ns c fun a => iprop(|={Set.univ}=> Q a)
  have hinv : env (ins m) ns ⊢ invs (ins m) ns := by
    unfold env invs; iintro ⟨H, -⟩; iexact H
  have hown := own_closes (ins m) ns c
  have hbar := cell_closes (ins m) ns c .bar
  ihave #HI := hinv $$ HE
  ihave H := hcut $$ [Har Hsc]
  · isplitl [Har] <;> iassumption
  icases H with ⟨Hm, Hm2, Hi⟩
  iapply hupd
  iapply hbody $$ HE [Hb Ht Hd Hpos HO Hg Hm Hm2]
  · unfold Start
    isplitl [HO]; · iexact HO
    isplitl [Hb]; · iexact Hb
    isplitl [Ht]; · iexact Ht
    isplitl [Hd]; · iexact Hd
    isplitl [Hpos]; · iexact Hpos
    isplitl [Hm]; · iexact Hm
    isplitl [Hm2]; · iexact Hm2
    iexact Hg
  iintro H
  have hend : End (ins m) c ⊢ iprop(owesAny c 0 ∗ atPos ER (cell c .bar) 1 ∅ 0 ∗ (fam (posOut c) ∗ fam2 (posOut2 c))
    ∗ fam (memOut (ins m) c) ∗ fam2 (mem2 c) ∗ gPts (ins m) c) := Entails.of_eq rfl
  ihave H := hend $$ H
  icases H with ⟨HO, Hat, Hpos, Hm, Hm2, Hg⟩
  ihave Hown := hown $$ [Hpos]
  · isplitr; · iexact HI
    iexact Hpos
  ihave Hbar := hbar $$ [Hat]
  · isplitr; · iexact HI
    iexact Hat
  imod Hown with Hown
  imod Hbar with Hbar
  imodintro
  iapply Hk
  ihave H := hjoin $$ [Hm Hm2 Hi]
  · isplitl [Hm]; · iexact Hm
    isplitl [Hm2] <;> iassumption
  icases H with ⟨Har, Hsc⟩
  isplitl [Hown Hbar Har Hsc Hreg]
  · unfold after Yk
    isplitl [Hown Hbar]
    · isplitl [Hbar]; · iexact Hbar
      iexact Hown
    isplitl [Har]; · iexact Har
    isplitl [Hsc]; · iexact Hsc
    iexact Hreg
  isplitl [HO] <;> iassumption

theorem staged (c : Dev nD) (d : Vec F S1x2048 .f32) : (dat m c).before 0 t0_0 d = (ins m).g c := by
  unfold Dat.before; rw [if_pos (fetch0_0 t0_0)]; rfl

theorem gPts_eq (c : Dev nD) (X : Vec F S1x2048 .f32) :
    (owns (Ix := Unit) (Name := ℕ) (U := UU) (Lvl := ℕ) (c : Thread nD τ) ((cfg0.win 0).stage (cfg0.slots t0_0 0)) fullShare X : sProp 𝕄)
      = pts c cc0_stg0_0 X := owns_whole (c : Thread nD τ) cc0_stg0_0 fullShare X

theorem body_at (t : Fin cfg0.N) : defs₀ (F := F) .tc cfg0.body (cfg0.bodyArgs t (cfg0.slots t)) = bodyAt0 t := rfl

theorem body_obligation (c : Dev nD) : BodyObligation (dat m c) (defs₀ (F := F)) 𝒱₀ () Set.univ := fun t => by
  obtain rfl := fin_N0 t
  rw [bigSep_W0, bigSep_W0, Φ_first, Φ_succ, body_at, body_eq, wp_deviceId]
  have hrun := body_runs m c
  unfold run at hrun
  generalize bodyOn (F := F) c = K at hrun ⊢
  have hin := owes_in m c t0_0.succ 0 (owed_succ m c)
  have hout := owes_out m c t0_0.castSucc (O₀ c) (owed_first m c)
  have hs : ∀ d, (owns (c : Thread nD τ) ((cfg0.win 0).stage (cfg0.slots t0_0 0)) fullShare ((dat m c).before 0 t0_0 d) : sProp 𝕄)
      ⊢ gPts (ins m) c := fun d => by rw [staged]; exact Entails.of_eq (gPts_eq c _)
  have hs' : gPts (ins m) c
      ⊢ (owns (c : Thread nD τ) ((cfg0.win 0).stage (cfg0.slots t0_0 0)) fullShare ((ins m).g c) : sProp 𝕄) := Entails.of_eq (gPts_eq c _).symm
  show iprop(before m c ∗ (dat m c).owesAt () t0_0.castSucc
      ∗ ∃ d, owns (c : Thread nD τ) ((cfg0.win 0).stage (cfg0.slots t0_0 0)) fullShare ((dat m c).before 0 t0_0 d))
    ⊢ wp frame (wpE (defs₀ (F := F)) 𝒱₀ (c : Thread nD τ) none) Set.univ K fun _ => iprop(after m c ∗ (dat m c).owesAt () t0_0.succ
      ∗ owns (c : Thread nD τ) ((cfg0.win 0).stage (cfg0.slots t0_0 0)) fullShare ((ins m).g c))
  iintro ⟨Hb, HO, ⟨%d, Hg⟩⟩
  iapply hrun $$ [Hb HO Hg]
  · isplitl [Hb]; · iexact Hb
    isplitl [HO]; · iapply hout $$ HO
    iapply (hs d) $$ Hg
  iintro ⟨Ha, HO, Hg⟩
  isplitl [Ha]; · iexact Ha
  isplitl [HO]; · iapply hin $$ HO
  iapply hs' $$ Hg

end Cert.KernelIdeal.Fused
-- ==== Proof.KI.Fund.lean ====
/-
  What the devices are dealt before the program runs: every cell's invariant under one map of names, the tokens of what each
  device pays, and the credits of what it waits for.

  The barrier's cells are funded from their counters. The cells on the kernel's own semaphores are funded without theirs and
  opened when the kernel is entered.
-/
module

public import proofs.«01_k».proof.Proof.KI.Region

@[expose] public section

noncomputable section

namespace Cert.KernelIdeal.Fused

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (A : Inputs F)

/-! ## Cells and tokens -/

def barEmb : Dev nD ↪ GSem nD τ sig := ⟨fun c => cell c .bar, fun _ _ h => (cell_inj h).1⟩
def ownEmb : Dev nD × OwnSum ↪ GSem nD τ sig :=
  ⟨fun x => cell x.1 (ownKind x.2), fun _ _ h => Prod.ext (cell_inj h).1 (ownKind_inj (cell_inj h).2)⟩

abbrev barCells : Finset (GSem nD τ sig) := Finset.univ.map barEmb
abbrev ownCells : Finset (GSem nD τ sig) := Finset.univ.map ownEmb

theorem cells_disjoint : Disjoint barCells ownCells := by
  rw [Finset.disjoint_left]
  rintro g h₁ h₂
  obtain ⟨c, -, rfl⟩ := Finset.mem_map.mp h₁
  obtain ⟨x, -, h⟩ := Finset.mem_map.mp h₂
  have h' : kindEquiv (.inr x.2) = kindEquiv (.inl ()) := (cell_inj h).2
  exact absurd (kindEquiv.injective h') (by simp)

theorem cell_mem (c : Dev nD) (κ : Kind) : cell c κ ∈ barCells ∪ ownCells := by
  obtain ⟨x, rfl⟩ := kindEquiv.surjective κ
  rcases x with u | x
  · exact Finset.mem_union_left _ (Finset.mem_map_of_mem barEmb (Finset.mem_univ c))
  · exact Finset.mem_union_right _ (Finset.mem_map_of_mem ownEmb (Finset.mem_univ (c, x)))

/-- The duties on one device's cells: two of the barrier's, and eight of each tile's. -/
abbrev DutyIx : Type := Bool ⊕ Fin 16 × Fin 8
def dutyAt : DutyIx → Kind × ℕ × Bool
  | .inl b => (.bar, 0, b)
  | .inr (k, 0) => (.ys k, 0, false)
  | .inr (k, 1) => (.yr k, 0, false)
  | .inr (k, 2) => (.xs k, 0, false)
  | .inr (k, 3) => (.xr k, 0, false)
  | .inr (k, 4) => (.pp (par k), k.val / 2, false)
  | .inr (k, 5) => (.rr (par k), k.val / 2, false)
  | .inr (k, 6) => (.oo (par k), k.val / 2, false)
  | .inr (k, 7) => (.xo k, 0, false)

theorem dutyAt_inj : Function.Injective dutyAt := by
  have h : ∀ x y : DutyIx, dutyAt x = dutyAt y → x = y := by decide +kernel
  exact fun x y => h x y

def duties : Finset (GSem nD τ sig × ℕ × Bool) :=
  Finset.univ.map ⟨fun x : Dev nD × DutyIx => (cell x.1 (dutyAt x.2).1, (dutyAt x.2).2.1, (dutyAt x.2).2.2), fun x y h => by
    have h1 := cell_inj (congrArg Prod.fst h)
    have h2 := congrArg Prod.snd h
    exact Prod.ext h1.1 (dutyAt_inj (Prod.ext h1.2 h2))⟩

/-! ## The tokens, dealt -/

/-- The tokens of one tile's duties on one device's cells. -/
def home (c : Dev nD) (k : Fin 16) : sProp 𝕄 :=
  iprop(tok0 c (.ys k) ∗ tok0 c (.yr k) ∗ tok0 c (.xs k) ∗ tok0 c (.xr k)
    ∗ tokR c (.pp (par k)) (k.val / 2) ∗ tokR c (.rr (par k)) (k.val / 2) ∗ tokR c (.oo (par k)) (k.val / 2) ∗ tokR c (.xo k) 0)

theorem duties_eq : (bigSep duties fun x => dutyTok ER x.1 x.2.1 x.2.2 : sProp 𝕄)
    = bigSep Finset.univ fun c : Dev nD =>
      iprop((dutyTok ER (cell c .bar) 0 false ∗ dutyTok ER (cell c .bar) 0 true) ∗ fam (home c)) := by
  unfold duties
  rw [bigSep_map, bigSep_univ_prod]
  refine bigSep_congr fun c _ => ?_
  rw [bigSep_univ_sum, bigSep_univ_prod, bigSep_univ_eq_bigSepL [false, true] (by decide) (by decide)]
  refine congrArg (fun P => iprop((dutyTok ER (cell c .bar) 0 false ∗ dutyTok ER (cell c .bar) 0 true) ∗ P)) ?_
  refine bigSep_congr fun k _ => ?_
  rw [bigSep_univ_eq_bigSepL [0, 1, 2, 3, 4, 5, 6, 7] (by decide) (by decide)]
  rfl

/-- The two neighbour maps, as permutations of the devices. -/
def permY : Dev nD ≃ Dev nD := ⟨devY, devY, devY_devY, devY_devY⟩
def permX : Dev nD ≃ Dev nD := ⟨devX, devX, devX_devX, devX_devX⟩

/-- The tokens of what one device pays. -/
def pays (c : Dev nD) : sProp 𝕄 :=
  iprop((dutyTok ER (cell (devY c) .bar) 0 false ∗ dutyTok ER (cell (devX c) .bar) 0 true) ∗ fam (toks c))

theorem home_open (c : Dev nD) : fam (home (F := F) c) = iprop(fam (fun k => tok0 c (.ys k)) ∗ fam (fun k => tok0 c (.yr k))
    ∗ fam (fun k => tok0 c (.xs k)) ∗ fam (fun k => tok0 c (.xr k))
    ∗ fam (fun k => tokR c (.pp (par k)) (k.val / 2)) ∗ fam (fun k => tokR c (.rr (par k)) (k.val / 2))
    ∗ fam (fun k => tokR c (.oo (par k)) (k.val / 2)) ∗ fam (fun k => tokR c (.xo k) 0)) := by
  unfold home; simp only [fam, bigSep_sep']
theorem toks_eq (c : Dev nD) : fam (toks (F := F) c) = iprop((fam (fun k => tok0 c (.ys k)) ∗ fam (fun k => tok0 (devY c) (.yr k)))
    ∗ (fam (fun k => tok0 c (.xs k)) ∗ fam (fun k => tok0 (devX c) (.xr k)))
    ∗ fam (fun k => tokR c (.pp (par k)) (k.val / 2)) ∗ fam (fun k => tokR c (.rr (par k)) (k.val / 2))
    ∗ fam (fun k => tokR c (.oo (par k)) (k.val / 2)) ∗ fam (fun k => tokR c (.xo k) 0)) := by
  unfold toks; simp only [fam, bigSep_sep']

/-- Every token goes to the device that pays its duty. -/
theorem deal : (bigSep duties fun x => dutyTok ER x.1 x.2.1 x.2.2 : sProp 𝕄) ⊢ bigSep Finset.univ (pays (F := F)) := by
  have hy : (bigSep Finset.univ fun c : Dev nD => fam (F := F) fun k => tok0 c (.yr k))
      = bigSep Finset.univ fun c : Dev nD => fam (F := F) fun k => tok0 (devY c) (.yr k) :=
    bigSep_univ_equiv permY fun c : Dev nD => fam (F := F) fun k => tok0 c (.yr k)
  have hx : (bigSep Finset.univ fun c : Dev nD => fam (F := F) fun k => tok0 c (.xr k))
      = bigSep Finset.univ fun c : Dev nD => fam (F := F) fun k => tok0 (devX c) (.xr k) :=
    bigSep_univ_equiv permX fun c : Dev nD => fam (F := F) fun k => tok0 c (.xr k)
  have hby : (bigSep Finset.univ fun c : Dev nD => (dutyTok ER (cell c .bar) 0 false : sProp 𝕄))
      = bigSep Finset.univ fun c : Dev nD => dutyTok ER (cell (devY c) .bar) 0 false :=
    bigSep_univ_equiv permY fun c : Dev nD => (dutyTok ER (cell c .bar) 0 false : sProp 𝕄)
  have hbx : (bigSep Finset.univ fun c : Dev nD => (dutyTok ER (cell c .bar) 0 true : sProp 𝕄))
      = bigSep Finset.univ fun c : Dev nD => dutyTok ER (cell (devX c) .bar) 0 true :=
    bigSep_univ_equiv permX fun c : Dev nD => (dutyTok ER (cell c .bar) 0 true : sProp 𝕄)
  rw [duties_eq]
  unfold pays
  simp only [home_open, toks_eq, bigSep_sep']
  rw [hy, hx, hby, hbx]
  iintro ⟨⟨Hb, Hb'⟩, H1, H2, H3, H4, H5, H6, H7, H8⟩
  isplitl [Hb Hb']
  · isplitl [Hb] <;> iassumption
  isplitl [H1 H2]
  · isplitl [H1] <;> iassumption
  isplitl [H3 H4]
  · isplitl [H3] <;> iassumption
  isplitl [H5]; · iexact H5
  isplitl [H6]; · iexact H6
  isplitl [H7] <;> iassumption

/-! ## The credits -/

theorem tally_cell (e c : Dev nD) (κ κ' : Kind) (n : ℕ) :
    tallyAt (cell e κ') () n (cell c κ) () = if e = c ∧ κ' = κ then n else 0 := by
  rw [tallyAt_apply]
  by_cases h : e = c ∧ κ' = κ
  · obtain ⟨rfl, rfl⟩ := h
    rw [if_pos ⟨rfl, rfl⟩, if_pos ⟨rfl, rfl⟩]
  · rw [if_neg (fun h' => h ⟨(cell_inj h'.1).1.symm, (cell_inj h'.1).2.symm⟩), if_neg h]

/-- What a family of debts, one towards each tile's cell, owes at one cell. -/
theorem owe_cell (e c : Dev nD) (κ' : Fin 16 → Kind) (hκ : Function.Injective κ') (κ : Kind) :
    (∑ j ∈ Finset.univ.filter (fun j : Fin 16 => 0 ≤ j.val), tallyAt (cell e (κ' j)) () N) (cell c κ) ()
      = if e = c ∧ ∃ j, κ' j = κ then N else 0 := by
  rw [Finset.filter_true_of_mem fun _ _ => Nat.zero_le _, Finset.sum_apply, Finsupp.finset_sum_apply]
  simp only [tally_cell]
  by_cases h : ∃ j, κ' j = κ
  · obtain ⟨j, rfl⟩ := h
    rw [Finset.sum_eq_single j (fun i _ hi => if_neg fun h' => hi (hκ h'.2)) fun h => absurd (Finset.mem_univ j) h]
    by_cases he : e = c
    · rw [if_pos ⟨he, rfl⟩, if_pos ⟨he, j, rfl⟩]
    · rw [if_neg fun h => he h.1, if_neg fun h => he h.1]
  · rw [if_neg fun h' => h h'.2]
    exact Finset.sum_eq_zero fun j _ => if_neg fun h' => h ⟨j, h'.2⟩

theorem owed_cell (d c : Dev nD) (κ : Kind) : O₀ d (cell c κ) ()
    = (if devY d = c ∧ ∃ j, Kind.yr j = κ then N else 0) + (if devX d = c ∧ ∃ j, Kind.xr j = κ then N else 0)
      + (if devX d = c ∧ Kind.bar = κ then 1 else 0) + (if devY d = c ∧ Kind.bar = κ then 1 else 0) := by
  unfold O₀ oweY oweX
  simp only [Pi.add_apply, Finsupp.add_apply]
  rw [owe_cell _ _ _ (fun _ _ h => Kind.yr.inj h), owe_cell _ _ _ (fun _ _ h => Kind.xr.inj h), tally_cell, tally_cell]

theorem sum_bar (c : Dev nD) : ∑ d : Dev nD, O₀ d (cell c .bar) () = 2 := by
  simp only [owed_cell, reduceCtorEq, exists_false, and_false, if_false, and_true, Nat.zero_add]
  revert c; decide +kernel
theorem sum_yr (c : Dev nD) (k : Fin 16) : ∑ d : Dev nD, O₀ d (cell c (.yr k)) () = N := by
  simp only [owed_cell, reduceCtorEq, exists_false, and_false, if_false, Nat.add_zero, Kind.yr.injEq, exists_eq, and_true]
  rw [Finset.sum_eq_single (devY c) (fun d _ hd => if_neg fun h => hd (by rw [← h, devY_devY])) fun h => absurd (Finset.mem_univ _) h]
  exact if_pos (devY_devY c)
theorem sum_xr (c : Dev nD) (k : Fin 16) : ∑ d : Dev nD, O₀ d (cell c (.xr k)) () = N := by
  simp only [owed_cell, reduceCtorEq, exists_false, and_false, if_false, Nat.add_zero, Nat.zero_add, Kind.xr.injEq, exists_eq, and_true]
  rw [Finset.sum_eq_single (devX c) (fun d _ hd => if_neg fun h => hd (by rw [← h, devX_devX])) fun h => absurd (Finset.mem_univ _) h]
  exact if_pos (devX_devX c)

theorem credit_at (c : Dev nD) (κ : Kind) (n : ℕ) (h : ∑ d : Dev nD, O₀ d (cell c κ) () = n) :
    tallyOn (cell c κ) (launchCredit (Pipeline.owing O₀) 0 (cell c κ)) = (tallyAt (cell c κ) () n : CellTallies nD τ sig Unit) := by
  unfold tallyAt
  refine congrArg _ (Finsupp.ext fun u => ?_)
  cases u
  rw [Pipeline.launchCredit_owing, Finsupp.single_eq_same, h]

/-- A device's launch credits hold those of what its body waits for. -/
theorem credits (c : Dev nD) : (Pipeline.launchCred O₀ c : sProp 𝕄)
    ⊢ iprop(cred (tallyAt (cell c .bar) () 2) ∗ fam (fun k => due c (.yr k)) ∗ fam (fun k => due c (.xr k))) := by
  let Φ : Kind → sProp 𝕄 := fun κ => cred (tallyOn (cell c κ) (launchCredit (Pipeline.owing O₀) 0 (cell c κ)))
  have h1 : (Pipeline.launchCred O₀ c : sProp 𝕄) ⊢ bigSep Finset.univ Φ := by
    unfold Pipeline.launchCred
    refine BIBase.Entails.trans (bigSep_subset (Finset.subset_univ (Finset.univ.map ⟨semOf, semOf_inj⟩))) ?_
    rw [bigSep_map]; exact BIBase.Entails.rfl
  have h2 : bigSep Finset.univ Φ = iprop(Φ .bar ∗ bigSep Finset.univ fun x : OwnSum => Φ (ownKind x)) := by
    rw [bigSep_univ_equiv kindEquiv, bigSep_univ_sum, Finset.univ_unique, bigSep_singleton]
    rfl
  have hb : Φ .bar ⊢ cred (tallyAt (cell c .bar) () 2) := Entails.of_eq (congrArg cred (credit_at c .bar 2 (sum_bar c)))
  have hy : fam (fun k => Φ (.yr k)) ⊢ fam (fun k => due (F := F) c (.yr k)) :=
    bigSep_mono fun k _ => Entails.of_eq (congrArg cred (credit_at c (.yr k) N (sum_yr c k)))
  have hx : fam (fun k => Φ (.xr k)) ⊢ fam (fun k => due (F := F) c (.xr k)) :=
    bigSep_mono fun k _ => Entails.of_eq (congrArg cred (credit_at c (.xr k) N (sum_xr c k)))
  refine h1.trans ?_
  rw [h2, own_split Φ]
  iintro ⟨Hb, -, Hy, -, Hx, -⟩
  isplitl [Hb]; · iapply hb $$ Hb
  isplitl [Hy]; · iapply hy $$ Hy
  iapply hx $$ Hx

end Cert.KernelIdeal.Fused
-- ==== Proof.KI.Launch.lean ====
/-
  The program's run on the mesh: the host's reshapes, then the call. Every run ends, with the arguments unchanged, the result on
  every device filled as `outAll` says, and every semaphore counter at zero.
-/
module

public import proofs.«01_k».proof.Proof.KI.Fund

@[expose] public section

noncomputable section

namespace Cert.KernelIdeal.Fused

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The memory at each stage -/

abbrev V₀ (c : Dev nD) : Valuation τ sig (Elt F) := fun b => m (c, b)
abbrev V₁ (c : Dev nD) : Valuation τ sig (Elt F) := StableHlo.after hostOps0 (V₀ m c)
def V₂ (c : Dev nD) : Valuation τ sig (Elt F) := Function.update (V₁ m c) (Proc.devRef .tc main_v3) (outAll (ins m) c)

theorem V₂_out (c : Dev nD) : V₂ m c (Proc.devRef .tc main_v3) = outAll (ins m) c := by unfold V₂; exact Function.update_self _ _ _
theorem V₂_of_ne (c : Dev nD) {b : DevRef τ sig} (h : b ≠ Proc.devRef .tc main_v3) : V₂ m c b = V₁ m c b := by
  unfold V₂; exact Function.update_of_ne h _ _

/-- Every array of the program; the call's own, the window's aside; those its body addresses. -/
abbrev bufs : Finset (DevRef τ sig) := Pipeline.ucRefs τ sig
abbrev others : Finset (DevRef τ sig) := bufs \ Pipeline.arrRefs (τ := τ) spec0
abbrev hand : Finset (DevRef τ sig) := {Proc.devRef .tc main_v1, Proc.devRef .tc main_arg1, Proc.devRef .tc main_v3}

theorem hand_sub : hand ⊆ others := by decide +kernel
theorem arr_sub : Pipeline.arrRefs (τ := τ) spec0 ⊆ bufs := Pipeline.arrRefs_sub_ucRefs spec0 (by decide +kernel)

theorem held_hand (c : Dev nD) (W : Valuation τ sig (Elt F)) : (StableHlo.held (c : Thread nD τ) hand W : sProp 𝕄)
    = iprop(pts c main_v1 (W main_v1) ∗ pts c main_arg1 (W main_arg1) ∗ pts c main_v3 (W main_v3)) := by
  unfold StableHlo.held
  rw [bigSep_eq_bigSepL_of_eq [Proc.devRef .tc main_v1, Proc.devRef .tc main_arg1, Proc.devRef .tc main_v3] (by decide) (by decide)]
  rfl

theorem held_bufs (c : Dev nD) (W : Valuation τ sig (Elt F)) : (StableHlo.held (c : Thread nD τ) bufs W : sProp 𝕄)
    = iprop(pts c main_arg0 (W main_arg0) ∗ pts c main_arg1 (W main_arg1) ∗ pts c main_arg2 (W main_arg2)
      ∗ pts c main_v1 (W main_v1) ∗ pts c main_v2 (W main_v2) ∗ pts c main_v3 (W main_v3)) := by
  unfold StableHlo.held
  rw [bigSep_eq_bigSepL_of_eq [Proc.devRef .tc main_arg0, Proc.devRef .tc main_arg1, Proc.devRef .tc main_arg2, Proc.devRef .tc main_v1,
    Proc.devRef .tc main_v2, Proc.devRef .tc main_v3] (by decide +kernel) (by decide)]
  rfl

/-! ## The two stages -/

/-- What rides beside the arrays up to the call. -/
def side (c : Dev nD) : sProp 𝕄 := iprop(Tk m c ∗ (∃ r, prngReg c r) ∗ owesAny c (O₀ c))

local notation "ℍ" => Pipeline.HostSeg (Name := ℕ) (U := UU) (pcfgs (F := F)) defs₀ 𝒱₀ L lv
local notation "ℝ𝕊" => Pipeline.RegionSeg (pcfgs (F := F)) adm (dats m) () defs₀ 𝒱₀ L lv

theorem ops_sub : ∀ op ∈ (hostOps0 : List (HloOp τ sig (Elt F))), op.bufs ⊆ bufs := fun op h =>
  Pipeline.sub_ucRefs op (List.forall_iff_forall_mem.mp hostOps0_sub op h)
theorem ops_fresh : ∀ op ∈ (hostOps0 : List (HloOp τ sig (Elt F))), op.fresh = ∅ :=
  List.forall_iff_forall_mem.mp hostOps0_fresh

/-- The host's reshapes. -/
def seg0 : ℍ := Pipeline.HostSeg.ofOps _ _ _ _ _ bufs hostOps0 ops_sub ops_fresh (V₀ m) (side m)

theorem ownSemFacts : Pipeline.OwnSemFacts spec0 osem := by decide +kernel

theorem cells_inj : Function.Injective (Pipeline.cellOf (nD := nD) (τ := τ) (Pipeline.pin (pcfgs (F := F)) adm)) := cellOf_inj

theorem kit : Pipeline.PLaunchFacts (nD := nD) (τ := τ) (pcfgs (F := F)) 0 where
  cellOf_inj a := by rw [Subsingleton.elim a adm]; exact cells_inj
  win := winFacts0
  pre := Pipeline.PreFacts.none _
  block_pos := block_pos0
  arr_whole := arr_whole0
  stage_whole := stage_whole0

theorem opens (c : Dev nD) : iprop(Tk m c ∗ Pipeline.ownSems0 osem c ∗ levAts L lv) ⊢ (|={Set.univ}=> Xk m c : sProp 𝕄) := by
  unfold Tk Xk
  iintro ⟨⟨⟨%ns, #HI⟩, Hr, Ho⟩, Hv, #Hlev⟩
  have ho := own_opens (ins m) ns c
  ihave H := ho $$ [Ho Hv]
  · isplitr; · iexact HI
    isplitl [Ho] <;> iassumption
  imod H with H
  imodintro
  isplitr [Hr H]
  · iexists ns
    rw [show env (ins m) ns = iprop(invs (ins m) ns ∗ levAts L lv) from rfl]
    isplitr; · iexact HI
    iexact Hlev
  isplitl [Hr]; · iexact Hr
  iexact H

theorem scoped_eq (c : Dev nD) : (Pipeline.scopedRest (Ix := Unit) (Name := ℕ) (U := UU) (Lvl := ℕ) (Val := Elt F)
    (Pipeline.pin (pcfgs (F := F)) adm 0).spec c : sProp 𝕄) = scratch (F := F) c := scopedRest0_eq c

theorem enters (c : Dev nD) : iprop(Pipeline.scopedRest (Pipeline.pin (pcfgs (F := F)) adm 0).spec c ∗ (∃ r, prngReg c r)
    ∗ StableHlo.held (c.tc : Thread nD τ) hand (V₁ m c) ∗ Xk m c) ⊢ (dats m 0 c).Φ 0 := by
  rw [show (dats m 0 c).Φ 0 = before m c from Φ_zero m c, scoped_eq, held_hand]
  unfold before arrays
  iintro ⟨Hs, Hr, Ha, HX⟩
  isplitl [HX]; · iexact HX
  isplitl [Ha]; · iexact Ha
  isplitl [Hs] <;> iassumption

theorem leaves (c : Dev nD) : (dats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) hand (V₂ m c) ∗ Pipeline.ownSems0 osem c ∗ Yk (F := F) c) := by
  rw [show (dats m 0 c).Φ (Fin.last (Pipeline.pin (pcfgs (F := F)) adm 0).N) = after m c from Φ_last m c, scoped_eq, held_hand, V₂_out,
    V₂_of_ne m c (b := Proc.devRef .tc main_v1) (by decide), V₂_of_ne m c (b := Proc.devRef .tc main_arg1) (by decide)]
  unfold after arrays
  iintro ⟨⟨Hb, Ho⟩, Ha, Hs, Hr⟩
  isplitl [Hs]; · iexact Hs
  isplitl [Hr]; · iexact Hr
  isplitl [Ha]; · iexact Ha
  isplitl [Ho] <;> iassumption

theorem kindOf_stage (s : Fin 1) : kindOf (SemLoc.dma ((cfg0.win 0).sem s)) = none := by
  have h : ¬ ∃ κ, semOf κ = SemLoc.dma ((cfg0.win 0).sem s) := by
    revert s; decide +kernel
  unfold kindOf
  exact dif_neg h

theorem above_O₀ (c : Dev nD) : Above 0 (O₀ c) :=
  (((Above.oweY c 0 (by decide)).add (Above.oweX c 0 (by decide))).add (Above.tally _ _ _ (by decide))).add (Above.tally _ _ _ (by decide))

theorem cut_owed (c : Dev nD) (t : Fin ((Pipeline.pin (pcfgs (F := F)) adm 0).N + 1)) (g : GSem nD τ sig) (i : Unit)
    (h : 0 < (dats (F := F) m 0 c).owed t g i) : i ∈ L g ∧ (0 : ℕ) < lv g i := by
  have e : (dats (F := F) m 0 c).owed t = if t.val = 0 then O₀ c else 0 := rfl
  rw [e] at h
  have ha : Above 0 (if t.val = 0 then O₀ c else 0) := by
    split
    · exact above_O₀ c
    · exact Above.zero 0
  obtain ⟨d, κ, rfl, hl⟩ := ha g i h
  exact ⟨by rw [L_tc]; exact Finset.mem_singleton_self _, by rw [lv_cell]; exact hl⟩

set_option backward.isDefEq.respectTransparency.types false in
/-- The call. -/
def seg1 : ℝ𝕊 0 :=
  Pipeline.RegionSeg.ofTalk (pcfgs (F := F)) adm (dats m) () defs₀ 𝒱₀ L lv 0 osem ownSemFacts
    hand others hand_sub kit rfl (fun c => (body_obligation m c).loose)
    (fun _ => 0) O₀ (fun c => (owed_zero m c).trans (zero_add _).symm) (owed_last m) (fun _ => rfl)
    (fun c w => by unfold Pipeline.Dat.share; split <;> rfl)
    (V₁ m) (V₂ m) (fun c b hb => V₂_of_ne m c fun h => (Finset.mem_sdiff.mp hb).2 (by rw [h]; decide))
    (Tk m) Yk (Xk m) Yk (opens m) (enters m) (leaves m)
    (fun c => by iintro H; imodintro; iexact H)
    (fun _ => 0)
    ⟨fun c w s => by rw [L_tc]; exact Finset.mem_singleton_self _,
      fun c w s => by
        obtain rfl : w = 0 := Subsingleton.elim _ _
        show lv ((c : Thread nD τ), SemLoc.dma ((cfg0.win 0).sem s)) () ≤ 0
        unfold lv; rw [kindOf_stage],
      fun c t g i h => cut_owed m c t g i h⟩
    (fun _ => iprop(emp))
    (fun c w => rfl)
    (fun c w => by
      obtain rfl : w = 0 := Subsingleton.elim _ _
      exact (Pipeline.Dat.arrAt_in (dat m c) 0 rfl _).trans (V₂_of_ne m c (by decide)).symm)

def segs : List (Pipeline.Seg (pcfgs (F := F)) adm (dats m) () defs₀ 𝒱₀ L lv) := [.host (seg0 m), .region (seg1 m)]

theorem main_eq (c : Dev nD) : main (F := F) c = Pipeline.Seg.run (segs m) :=
  main_segs adm (dats m) () 𝒱₀ L lv (seg0 m) (seg1 m) rfl c

theorem seg1_pre (c : Dev nD) : iprop(StableHlo.held (c : Thread nD τ) bufs (V₁ m c) ∗ side m c) ⊢ (seg1 m).pre c := by
  show _ ⊢ iprop(StableHlo.held (c.tc : Thread nD τ) (Pipeline.arrRefs (τ := τ) spec0) (V₁ m c) ∗ (∃ r, prngReg c r)
    ∗ (StableHlo.held (c.tc : Thread nD τ) others (V₁ m c) ∗ emp) ∗ Tk m c ∗ ∃ Wd, owes (c : Thread nD τ) (0 + O₀ c) Wd)
  rw [StableHlo.held_sub_split (c : Thread nD τ) arr_sub (V₁ m c), zero_add]
  unfold side owesAny
  iintro ⟨⟨Ha, Hh⟩, HK, Hp, HO⟩
  isplitl [Ha]; · iexact Ha
  isplitl [Hp]; · iexact Hp
  isplitl [Hh]
  · isplitl [Hh]; · iexact Hh
    iempintro
  isplitl [HK] <;> iassumption

theorem seg1_post (c : Dev nD) : (seg1 m).post c
    ⊢ iprop((StableHlo.held (c : Thread nD τ) bufs (V₂ m c) ∗ semVal (cell c .bar) 0)
      ∗ ∃ W, owes (c : Thread nD τ) (0 : CellTallies nD τ sig Unit) W) := by
  show iprop(StableHlo.held (c.tc : Thread nD τ) (Pipeline.arrRefs (τ := τ) spec0) (V₂ m c) ∗ (∃ r, prngReg c r)
    ∗ (StableHlo.held (c.tc : Thread nD τ) others (V₂ m c) ∗ emp) ∗ Yk c ∗ ∃ Wd, owes (c : Thread nD τ) (0 : CellTallies nD τ sig Unit) Wd) ⊢ _
  rw [StableHlo.held_sub_split (c : Thread nD τ) arr_sub (V₂ m c)]
  unfold Yk
  iintro ⟨Ha, -, ⟨Hh, -⟩, Hb, HO⟩
  isplitr [HO]
  · isplitr [Hb]
    · isplitl [Ha] <;> iassumption
    iexact Hb
  iexact HO

/-! ## The start -/

/-- The launch element: the staging cell's, and the protocol's. -/
def u₀ : UU :=
  (initOf (Pipeline.cells (Pipeline.pin (pcfgs (F := F)) adm) cells_inj) (Pipeline.launchToks (Pipeline.pin (pcfgs (F := F)) adm) cells_inj),
    launchOf barCells ownCells duties)

/-- The protocol's element waits with device 0 until every device's holdings are at hand. -/
def parked (c : Dev nD) : sProp 𝕄 := if c = 0 then BI.own (ER (launchOf barCells ownCells duties)) else iprop(emp)

theorem parked_all : bigSep Finset.univ (parked (F := F)) = BI.own (ER (launchOf barCells ownCells duties)) := by
  rw [bigSep_univ_at _ (0 : Dev nD), bigSep_congr (s := Finset.univ.erase 0) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

/-- What all may read: the invariants, and round 0 of every barrier cell reached. -/
def records (ns : GSem nD τ sig → ℕ) : sProp 𝕄 :=
  iprop((bigSep (barCells ∪ ownCells) fun g => cellInv ER (talkRd (ins m)) (ns g) g) ∗ bigSep barCells fun g => reached ER g 0)

instance records_persistent (ns : GSem nD τ sig → ℕ) : BI.Persistent (records m ns) := by unfold records; infer_instance

theorem records_invs (ns : GSem nD τ sig → ℕ) : records m ns ⊢ invs (ins m) ns := by
  have h (x : Dev nD × Kind) : records m ns ⊢ cellInv ER (talkRd (ins m)) (ns (cell x.1 x.2)) (cell x.1 x.2) := by
    have h' : (bigSep (barCells ∪ ownCells) fun g => cellInv ER (talkRd (ins m)) (ns g) g)
        ⊢ (cellInv ER (talkRd (ins m)) (ns (cell x.1 x.2)) (cell x.1 x.2) : sProp 𝕄) :=
      bigSep_elim (Φ := fun g => (cellInv ER (talkRd (ins m)) (ns g) g : sProp 𝕄)) (cell_mem x.1 x.2)
    unfold records
    iintro ⟨H, -⟩
    iapply h' $$ H
  unfold invs
  exact BIBase.Entails.trans (bigSep_of_persistent Finset.univ _) (bigSep_mono fun x _ => h x)

theorem records_reached (ns : GSem nD τ sig → ℕ) (c : Dev nD) : records m ns ⊢ reached ER (cell c .bar) 0 := by
  have h' : (bigSep barCells fun g => (reached ER g 0 : sProp 𝕄)) ⊢ reached ER (cell c .bar) 0 :=
    bigSep_elim (Φ := fun g => (reached ER g 0 : sProp 𝕄)) (Finset.mem_map_of_mem barEmb (Finset.mem_univ c))
  unfold records
  iintro ⟨-, H⟩
  iapply h' $$ H

/-- A device's own part of the protocol. -/
def part (c : Dev nD) : sProp 𝕄 :=
  iprop(atPos ER (cell c .bar) 0 ∅ 0 ∗ (bigSep Finset.univ fun x : OwnSum => openTok ER (cell c (ownKind x))) ∗ pays c)

/-- The rest of what a device is launched with. -/
def bundle (c : Dev nD) : sProp 𝕄 :=
  iprop(StableHlo.held (c : Thread nD τ) bufs (V₀ m c)
    ∗ (cred (tallyAt (cell c .bar) () 2) ∗ fam (fun k => due c (.yr k)) ∗ fam (fun k => due c (.xr k)))
    ∗ owes (c : Thread nD τ) (O₀ c) ∅ ∗ ∃ r, prngReg c r)

abbrev T₀ (c : Dev nD) : sProp 𝕄 := iprop(StableHlo.held (c : Thread nD τ) bufs (V₀ m c) ∗ side m c)
abbrev Tₙ (c : Dev nD) : sProp 𝕄 := iprop(StableHlo.held (c : Thread nD τ) bufs (V₂ m c) ∗ semVal (cell c .bar) 0)

theorem start_intro (ns : GSem nD τ sig → ℕ) (c : Dev nD) : iprop(records m ns ∗ (part c ∗ bundle m c)) ⊢ T₀ m c := by
  have hi := records_invs m ns
  have hy := records_reached m ns (devY c)
  have hx := records_reached m ns (devX c)
  unfold part bundle T₀ side Tk rights barIn pays owesAny
  iintro ⟨#HR, ⟨Hat, Hop, ⟨Hty, Htx⟩, Htok⟩, Hh, ⟨Hcb, Hcy, Hcx⟩, HO, Hp⟩
  isplitl [Hh]; · iexact Hh
  isplitr [Hp HO]
  · isplitr
    · iexists ns
      iapply hi $$ HR
    isplitr [Hop]
    · isplitr [Htok Hcy Hcx]
      · isplitl [Hty]
        · isplitl [Hty]; · iexact Hty
          iapply hy $$ HR
        isplitl [Htx]
        · isplitl [Htx]; · iexact Htx
          iapply hx $$ HR
        isplitl [Hcb] <;> iassumption
      isplitl [Htok]; · iexact Htok
      isplitl [Hcy] <;> iassumption
    iexact Hop
  isplitl [Hp]; · iexact Hp
  iexists ∅
  iexact HO

theorem unscopedSems_eq (c : Dev nD) : (unscopedSems0 c : sProp 𝕄) = semVal (cell c .bar) 0 := by
  unfold unscopedSems0
  rw [show (Finset.univ.filter fun sm : SemLoc sig => ¬ sm.isScoped .tc) = {SemLoc.reg barS} from by decide, BI.bigSep_singleton]
  rfl

theorem core_start (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ parked c)
    ⊢ (iprop(bundle m c ∗ (semVal (cell c .bar) 0 ∗ parked c)) : sProp 𝕄) := by
  have hc := credits (F := F) c
  rw [show unscopedBufs c (fun b => m ((c : Thread nD τ).loc b)) = StableHlo.held (c : Thread nD τ) bufs (V₀ m c) from
    Pipeline.unscopedBufs_held c (V₀ m c), unscopedSems_eq]
  unfold bundle
  iintro ⟨Hh, Hus, HO, Hcr, Hp, HG⟩
  ihave Hc := hc $$ Hcr
  isplitl [Hh Hc HO Hp]
  · isplitl [Hh]; · iexact Hh
    isplitl [Hc]; · iexact Hc
    isplitl [HO]; · iexact HO
    iexists (ρ c); iexact Hp
  isplitl [Hus] <;> iassumption

theorem init : iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ parked c)) ∗ levAts L lv)
      ⊢ (|={Set.univ}=> bigSep Finset.univ (T₀ m) : sProp 𝕄) := by
  have hstart : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ parked c))
      ⊢ (iprop((bigSep Finset.univ fun c => bundle m c) ∗ (bigSep Finset.univ fun c : Dev nD => semVal (cell c .bar) 0)
        ∗ bigSep Finset.univ fun c => parked c) : sProp 𝕄) := by
    refine BIBase.Entails.trans (bigSep_mono fun c _ => core_start m ρ c) ?_
    rw [bigSep_sep', bigSep_sep']
  have hv : bigSep Finset.univ (fun c : Dev nD => (semVal (cell c .bar) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (cell c .bar) 0 ∅ 0 : sProp 𝕄)) :=
    Entails.of_eq (bigSep_map (s := Finset.univ) barEmb (Φ := fun g : GSem nD τ sig => (atPos ER g 0 ∅ 0 : sProp 𝕄)))
  have hopen : bigSep ownCells (fun g => (openTok ER g : sProp 𝕄))
      ⊢ bigSep Finset.univ (fun c : Dev nD => bigSep Finset.univ fun x : OwnSum => openTok ER (cell c (ownKind x))) :=
    Entails.of_eq (by rw [bigSep_map, bigSep_univ_prod]; rfl)
  have hpart : iprop((bigSep Finset.univ fun c : Dev nD => atPos ER (cell c .bar) 0 ∅ 0)
        ∗ (bigSep Finset.univ fun c : Dev nD => bigSep Finset.univ fun x : OwnSum => openTok ER (cell c (ownKind x)))
        ∗ (bigSep Finset.univ (pays (F := F))) ∗ bigSep Finset.univ fun c => bundle m c)
      ⊢ (bigSep Finset.univ fun c : Dev nD => iprop(part c ∗ bundle m c) : sProp 𝕄) := by
    unfold part
    simp only [bigSep_sep']
    iintro ⟨H1, H2, H3, H4⟩
    isplitr [H4]
    · isplitl [H1]; · iexact H1
      isplitl [H2] <;> iassumption
    iexact H4
  have hd := deal (F := F)
  have hp := parked_all (F := F)
  iintro ⟨H, -⟩
  ihave H' := hstart $$ H
  icases H' with ⟨HB, Hv, HG⟩
  ihave Hu := (Entails.of_eq hp) $$ HG
  imod (Rounds.fund_launch ER (talkRd (ins m)) cells_disjoint (fun g _ h => h) duties) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(part c ∗ bundle m c)) fun c _ => start_intro m κ c)
  isplitr
  · unfold records
    isplitr; · iexact Hinv
    iexact Hr
  iapply hpart
  isplitl [Hat]; · iapply hat $$ Hat
  isplitl [Hopen]; · iapply hopen $$ Hopen
  isplitl [Htok]; · iapply hd $$ Htok
  iexact HB

/-! ## The run -/

theorem unscoped_eq : ∀ sm : SemLoc sig, sm.isScoped .tc = false → sm = .reg barS := by decide

theorem V₂_arg0 (c : Dev nD) : V₂ m c main_arg0 = m ((c : Thread nD τ).loc main_arg0) :=
  (V₂_of_ne m c (b := Proc.devRef .tc main_arg0) (by decide)).trans (V_main_arg0 m c)
theorem V₂_arg1 (c : Dev nD) : V₂ m c main_arg1 = m ((c : Thread nD τ).loc main_arg1) :=
  (V₂_of_ne m c (b := Proc.devRef .tc main_arg1) (by decide)).trans (V_main_arg1 m c)
theorem V₂_arg2 (c : Dev nD) : V₂ m c main_arg2 = m ((c : Thread nD τ).loc main_arg2) :=
  (V₂_of_ne m c (b := Proc.devRef .tc main_arg2) (by decide)).trans (V_main_arg2 m c)

/-- What a device's memory holds at the end. -/
def Final (c : Dev nD) (mem : (ℓ : Loc nD τ sig) → Buf (Elt F) ℓ) : Prop :=
  (mem ((c : Thread nD τ).loc main_arg0) = m ((c : Thread nD τ).loc main_arg0)
    ∧ mem ((c : Thread nD τ).loc main_arg1) = m ((c : Thread nD τ).loc main_arg1)
    ∧ mem ((c : Thread nD τ).loc main_arg2) = m ((c : Thread nD τ).loc main_arg2))
  ∧ mem ((c : Thread nD τ).loc main_v3) = outAll (ins m) c

set_option backward.isDefEq.respectTransparency.types false in
/-- Every run of the program ends, with each device's memory as `Final` says and every counter at zero. -/
theorem run_main : θ_run (defs (F := F)) (onTc (τ := τ) (main (F := F))) (s₀ m ρ)
    (fun r => (∀ c : Dev nD, Final m c r.2.mem) ∧ r.2.sem = fun _ => 0) :=
  Pipeline.θ_run_regions_kit_sems (pcfgs (F := F)) adm (dats m) () cells_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := parked (F := F)) (u₀ := u₀ (F := F))
    (hu₀ := by
      have hp := parked_all (F := F)
      unfold u₀
      iintro Hu
      ihave H := (ownU_pair _ _) $$ Hu
      icases H with ⟨HP, HX⟩
      imodintro
      isplitl [HP]; · iexact HP
      rw [hp]; iexact HX)
    (T₀ := T₀ m) (Tₙ := Tₙ m)
    (hch := ⟨fun c => .rfl, fun c => seg1_pre m c, fun c => seg1_post m c⟩)
    (hinit := init m ρ)
    (QY := fun c s => ((s.mem ((c : Thread nD τ).loc main_arg0) = V₂ m c main_arg0 ∧ s.mem ((c : Thread nD τ).loc main_arg1) = V₂ m c main_arg1
        ∧ s.mem ((c : Thread nD τ).loc main_arg2) = V₂ m c main_arg2) ∧ s.mem ((c : Thread nD τ).loc main_v3) = V₂ m c main_v3)
      ∧ s.sem (cell c .bar) = 0)
    (hfin := fun c s' => by
      dsimp only [Tₙ]; rw [held_bufs]
      unfold pts
      iintro ⟨⟨⟨H0, H1, H2, -, -, H3⟩, Hb0⟩, HSI⟩
      icombine HSI H0 gives %h0
      icombine HSI H1 gives %h1
      icombine HSI H2 gives %h2
      icombine HSI H3 gives %h3
      icombine HSI Hb0 gives %hb
      imodintro
      isplitr
      · ipureintro
        exact ⟨⟨⟨Buf.eq_of_forall_mem_univ h0, Buf.eq_of_forall_mem_univ h1, Buf.eq_of_forall_mem_univ h2⟩, Buf.eq_of_forall_mem_univ h3⟩,
          by simpa using hb⟩
      iexact HSI)
    (hQ := fun s h hs => ⟨fun c => by
        obtain ⟨⟨⟨h0, h1, h2⟩, h3⟩, -⟩ := h c
        exact ⟨⟨h0.trans (V₂_arg0 m c), h1.trans (V₂_arg1 m c), h2.trans (V₂_arg2 m c)⟩, h3.trans (V₂_out m c)⟩,
      sem_eq_zero hs fun c sm hsm => by
        obtain rfl := unscoped_eq sm hsm
        exact (h c).2⟩)

end Cert.KernelIdeal.Fused
-- ==== Proof.Value.Rows.lean ====
/-
  The normalised sum, read at one element: the kernel's tile and the reference's array both give the row's element divided by
  the root of the row's mean square, times the scale. The two spell the quotient differently, and agree because the mean square
  with its small addend is positive.
-/
module

public import proofs.«01_k».proof.Proof.KI.Launch
public import proofs.«01_k».proof.Proof.Gen.ReferenceIdeal.Run
public import Idealize.ShloMosaic.Lib.Pointwise

@[expose] public section

set_option maxRecDepth 16384

noncomputable section

namespace Cert.Fused

open Idealize.ShloMosaic Idealize.ShloMosaic.TcCoe Idealize.SL.Sem

/-- A row's mean square, with the small addend. -/
def meanSq (x : Fin 2048 → EReal) : EReal :=
  Ideal.div (∑ k : Fin 2048, x k * x k) (Ideal.ofBits .f32 0x45000000#32) + Ideal.ofBits .f32 0x358637BD#32

/-- Column `q` of a row, normalised by the root of its mean square and scaled. -/
def normAt (x : Fin 2048 → EReal) (g : EReal) (q : Fin 2048) : EReal := x q * Ideal.rsqrt (meanSq x) * g

/-! ## The two quotients -/

theorem div_sqrt (x : EReal) {v : EReal} (hv : 0 < v) : Ideal.div x (Ideal.sqrt v) = x * Ideal.rsqrt v := by
  induction v with
  | bot => exact absurd hv (by simp)
  | top =>
    show (if (⊤ : EReal) = 0 then _ else x * (⊤ : EReal)⁻¹) = x * 0
    rw [if_neg (by simp), EReal.inv_top]
  | coe r =>
    have hr : 0 < r := EReal.coe_pos.mp hv
    have hs : Ideal.sqrt (r : EReal) = (Real.sqrt r : EReal) := if_neg hr.not_gt
    have hq : Ideal.rsqrt (r : EReal) = ((Real.sqrt r)⁻¹ : ℝ) := by
      show (if r < 0 then (⊥ : EReal) else if r = 0 then ⊤ else ((Real.sqrt r)⁻¹ : ℝ)) = _
      rw [if_neg hr.not_gt, if_neg hr.ne']
    rw [hs, hq]
    unfold Ideal.div
    rw [if_neg (by simpa using (Real.sqrt_pos.mpr hr).ne'), EReal.coe_inv]

theorem ofBits_len : Ideal.ofBits .f32 0x45000000#32 = ((2048 : ℝ) : EReal) := by
  show Ideal.ieee 8 23 (0x45000000#32) = _
  simp only [Ideal.ieee, show BitVec.extractLsb' 23 8 0x45000000#32 = 138#8 from by decide,
    show BitVec.extractLsb' 0 23 0x45000000#32 = 0#23 from by decide,
    show BitVec.extractLsb' (8 + 23) 1 0x45000000#32 = 0#1 from by decide]
  norm_num

theorem ofBits_eps : 0 < Ideal.ofBits .f32 0x358637BD#32 := by
  show 0 < Ideal.ieee 8 23 (0x358637BD#32)
  simp only [Ideal.ieee, show BitVec.extractLsb' 23 8 0x358637BD#32 = 107#8 from by decide,
    show BitVec.extractLsb' 0 23 0x358637BD#32 = 407485#23 from by decide,
    show BitVec.extractLsb' (8 + 23) 1 0x358637BD#32 = 0#1 from by decide]
  norm_num

theorem mul_self_nonneg' (x : EReal) : 0 ≤ x * x := by
  induction x with
  | bot => simp
  | top => simp
  | coe r => exact_mod_cast mul_self_nonneg r

theorem meanSq_pos (x : Fin 2048 → EReal) : 0 < meanSq x := by
  have h : 0 ≤ ∑ k : Fin 2048, x k * x k := Finset.sum_nonneg fun k _ => mul_self_nonneg' (x k)
  have hd : 0 ≤ Ideal.div (∑ k : Fin 2048, x k * x k) (Ideal.ofBits .f32 0x45000000#32) := by
    unfold Ideal.div
    rw [ofBits_len, if_neg (by norm_num)]
    refine mul_nonneg h ?_
    rw [← EReal.coe_inv]
    exact EReal.coe_nonneg.mpr (by norm_num)
  exact lt_of_lt_of_le ofBits_eps (le_add_of_nonneg_left hd)

/-! ## The kernel's tile -/

section
open Cert.KernelIdeal.Gen Cert.KernelIdeal Cert.KernelIdeal.Fused

theorem tileNorm_at (v : FVec Ideal S64x2048 .f32) (g : Vec Ideal S1x2048 .f32) (r : Fin 64) (q : Fin 2048) :
    tileNorm v g (ix2 r q) = normAt (fun k => v (ix2 r k)) (g (ix2 0 q)) q := by
  unfold normAt meanSq
  pointwise [tileNorm]
end

/-! ## The reference's array -/

section
open Cert.ReferenceIdeal Cert.ReferenceIdeal.Gen

/-- The reference's sum of the partial arrays and the residual. -/
def refSum (a : FVec Ideal S2x2048x2048 .f32) (r : FVec Ideal S2048x2048 .f32) : FVec Ideal S2048x2048 .f32 :=
  addf (Host.reduceAdd a (constant S_ .f32 0x00000000#32) reducesTo_S2x2048x2048_S2048x2048_d0 h_S_) r

/-- The reference's result. -/
def refOut (a : FVec Ideal S2x2048x2048 .f32) (r : FVec Ideal S2048x2048 .f32) (g : FVec Ideal S2048 .f32) : FVec Ideal S2048x2048 .f32 :=
  mulf (Host.divf (refSum a r) (broadcastInDim S2048x2048 ![0, 1] bcast_S2048x1_S2048x2048_0_1 (Host.sqrt (addf (Host.divf
      (broadcastInDim S2048x1 ![0] bcast_S2048_S2048x1_0
        (Host.reduceAdd (mulf (refSum a r) (refSum a r)) (constant S_ .f32 0x00000000#32) reducesTo_S2048x2048_S2048_d1 h_S_))
      (broadcastInDim S2048x1 ![] bcast_S_S2048x1 (constant S_ .f32 0x45000000#32)))
      (broadcastInDim S2048x1 ![] bcast_S_S2048x1 (constant S_ .f32 0x358637BD#32))))))
    (broadcastInDim S2048x2048 ![0, 1] bcast_S1x2048_S2048x2048_0_1 (broadcastInDim S1x2048 ![1] bcast_S2048_S1x2048_1 g))

theorem refSum_at (a : FVec Ideal S2x2048x2048 .f32) (r : FVec Ideal S2048x2048 .f32) (i q : Fin 2048) :
    refSum a r (ix2 i q) = a (ix3 0 i q) + a (ix3 1 i q) + r (ix2 i q) := by
  pointwise [refSum]
  simp only [Fin.sum_univ_two]

theorem refOut_at (a : FVec Ideal S2x2048x2048 .f32) (r : FVec Ideal S2048x2048 .f32) (g : FVec Ideal S2048 .f32) (i q : Fin 2048) :
    refOut a r g (ix2 i q) = normAt (fun k => refSum a r (ix2 i k)) (g (ix1 q)) q := by
  unfold normAt
  rw [← div_sqrt _ (meanSq_pos _)]
  unfold meanSq refOut
  generalize refSum a r = v
  pointwise
end

end Cert.Fused
-- ==== Proof.Value.Result.lean ====
/-
  What each device's result array holds is the reference's result: row by row, the sum of the two partial arrays and the
  residual, normalised and scaled.
-/
module

public import proofs.«01_k».proof.Proof.Value.Rows
public import Idealize.ShloMosaic.Lib.StableHlo.ReadAt
public import Idealize.ShloMosaic.Lib.Layout

@[expose] public section

set_option maxRecDepth 16384

noncomputable section

namespace Cert.Fused

open Idealize.ShloMosaic Idealize.ShloMosaic.TcCoe Idealize.SL.Sem
open Cert.KernelIdeal.Gen Cert.KernelIdeal Cert.KernelIdeal.Fused

variable (m : (ℓ : Loc nD τ sig) → Buf (Elt Ideal) ℓ)

/-! ## What the call reads -/

theorem p_at (d : Dev nD) (i q : Fin 2048) : (ins m).p d (ix2 i q) = (m ((d : Thread nD τ).loc main_arg0) : Vec Ideal S1x2048x2048 .f32) (ix3 0 i q) := by
  show StableHlo.after hostOps0 (fun b => m (d, b)) (Proc.devRef .tc main_v1) (ix2 i q) = _
  unfold hostOps0
  after_reads_at

theorem v2_at (d : Dev nD) (q : Fin 2048) : (V m d main_v2 : Vec Ideal S1x2048 .f32) (ix2 0 q) = (m ((d : Thread nD τ).loc main_arg2) : Vec Ideal S2048 .f32) (ix1 q) := by
  show StableHlo.after hostOps0 (fun b => m (d, b)) (Proc.devRef .tc main_v2) (ix2 0 q) = _
  unfold hostOps0
  after_reads_at

theorem g_at (d : Dev nD) (q : Fin 2048) : (ins m).g d (ix2 0 q) = (m ((d : Thread nD τ).loc main_arg2) : Vec Ideal S2048 .f32) (ix1 q) := by
  refine Eq.trans ?_ (v2_at m d q)
  show iblk m d 0 t0_0 (ix2 0 q) = _
  unfold iblk
  show V m d main_v2 _ = V m d main_v2 _
  refine congrArg _ ?_
  funext a
  match a with
  | ⟨0, _⟩ => rfl
  | ⟨1, _⟩ => exact Fin.ext (show 0 + 1 * q.val = q.val by omega)

theorem r_eq (d : Dev nD) : (ins m).r d = m ((d : Thread nD τ).loc main_arg1) := V_main_arg1 m d

/-! ## A tile's element is an element of the arrays -/

/-- Row `r` of tile `k` of device `d`'s half, as a row of the array. -/
theorem tile_row (d : Dev nD) (k : Fin 16) (i q : Fin 2048) (r : Fin 64) (h : i.val / 1024 = d.val / 2)
    (hk : k.val = i.val % 1024 / 64) (hr : r.val = i.val % 64) :
    (Rect.unit (s := S2048x2048) (k0_off1 d (BitVec.ofNat 32 (64 * k.val))) S64x2048.size (k0_off1_inb d k)).idx (ix2 r q) = ix2 i q := by
  funext a
  match a with
  | ⟨0, _⟩ =>
    have := congrFun (k0_off1_eq d k) 0
    refine Fin.ext ?_
    show k0_off1 d (BitVec.ofNat 32 (64 * k.val)) 0 + 1 * r.val = i.val
    rw [this]; show 1024 * (d.val / 2) + 64 * k.val + 1 * r.val = i.val; omega
  | ⟨1, _⟩ =>
    have := congrFun (k0_off1_eq d k) 1
    refine Fin.ext ?_
    show k0_off1 d (BitVec.ofNat 32 (64 * k.val)) 1 + 1 * q.val = q.val
    rw [this]; show 0 + 1 * q.val = q.val; omega

theorem pT_at (d : Dev nD) (k : Fin 16) (i q : Fin 2048) (r : Fin 64) (h : i.val / 1024 = d.val / 2)
    (hk : k.val = i.val % 1024 / 64) (hr : r.val = i.val % 64) : (ins m).pT d k (ix2 r q) = (ins m).p d (ix2 i q) :=
  congrArg ((ins m).p d) (tile_row d k i q r h hk hr)
theorem rT_at (d : Dev nD) (k : Fin 16) (i q : Fin 2048) (r : Fin 64) (h : i.val / 1024 = d.val / 2)
    (hk : k.val = i.val % 1024 / 64) (hr : r.val = i.val % 64) : (ins m).rT d k (ix2 r q) = (ins m).r d (ix2 i q) :=
  congrArg ((ins m).r d) (tile_row d k i q r h hk hr)

theorem devY_half (d : Dev nD) : (devY d).val / 2 = d.val / 2 := by revert d; decide
theorem devX_half (d : Dev nD) : (devX d).val / 2 = 1 - d.val / 2 := by revert d; decide

/-! ## The claim's arguments -/

variable (a : Vec Ideal ⟨3, ![2, 2048, 2048]⟩ .f32) (r : Vec Ideal ⟨2, ![2048, 2048]⟩ .f32) (g : Vec Ideal ⟨1, ![2048]⟩ .f32)

/-- Each device holds its column's partial array, and the residual and the scale whole. -/
def Args : Prop := ∀ c : Dev nD,
  m ((c : Thread nD τ).loc main_arg0) = Layout.blockN ⟨3, ![1, 2048, 2048]⟩ ⟨3, ![2, 2048, 2048]⟩ (Layout.meshBlock [2, 2] ![[1], [], []] c) a
  ∧ m ((c : Thread nD τ).loc main_arg1) = r ∧ m ((c : Thread nD τ).loc main_arg2) = g

/-- The column of a device. -/
def col (c : Dev nD) : Fin 2 := ⟨c.val % 2, Nat.mod_lt _ (by decide)⟩

theorem block_at (c : Dev nD) (i q : Fin 2048) :
    (Layout.blockN ⟨3, ![1, 2048, 2048]⟩ ⟨3, ![2, 2048, 2048]⟩ (Layout.meshBlock [2, 2] ![[1], [], []] c) a : Vec Ideal S1x2048x2048 .f32)
      (ix3 0 i q) = a (ix3 (col c) i q) := by
  rw [Layout.blockN_apply]
  refine congrArg a ?_
  funext b
  match b with
  | ⟨0, _⟩ =>
    refine Fin.ext ?_
    rw [Layout.TilesN.idx_val]
    show ((Layout.meshBlock [2, 2] ![[1], [], []] c) 0).val * 1 + 0 = c.val % 2
    revert c; decide
  | ⟨1, _⟩ =>
    refine Fin.ext ?_
    rw [Layout.TilesN.idx_val]
    show ((Layout.meshBlock [2, 2] ![[1], [], []] c) 1).val * 2048 + i.val = i.val
    rw [show ((Layout.meshBlock [2, 2] ![[1], [], []] c) 1).val = 0 from rfl]; omega
  | ⟨2, _⟩ =>
    refine Fin.ext ?_
    rw [Layout.TilesN.idx_val]
    show ((Layout.meshBlock [2, 2] ![[1], [], []] c) 2).val * 2048 + q.val = q.val
    rw [show ((Layout.meshBlock [2, 2] ![[1], [], []] c) 2).val = 0 from rfl]; omega

/-- The two partials of a column pair are the whole array's two, in one order or the other. -/
theorem pair_sum (d : Dev nD) (i q : Fin 2048) : a (ix3 (col d) i q) + a (ix3 (col (devY d)) i q) = a (ix3 0 i q) + a (ix3 1 i q) := by
  rcases (by revert d; decide : (col d = 0 ∧ col (devY d) = 1) ∨ (col d = 1 ∧ col (devY d) = 0)) with ⟨h, h'⟩ | ⟨h, h'⟩
  · rw [h, h']
  · rw [h, h']; exact add_comm _ _

variable {m a r g}

/-- A tile of the output, at one element. -/
theorem oT_at (hA : Args m a r g) (d : Dev nD) (k : Fin 16) (i q : Fin 2048) (s : Fin 64) (h : i.val / 1024 = d.val / 2)
    (hk : k.val = i.val % 1024 / 64) (hs : s.val = i.val % 64) : (ins m).oT d k (ix2 s q) = refOut a r g (ix2 i q) := by
  have hx (j : Fin 2048) : (addf (addf ((ins m).pT d k) ((ins m).pT (devY d) k)) ((ins m).rT d k) : FVec Ideal S64x2048 .f32) (ix2 s j)
      = refSum a r (ix2 i j) := by
    show ((ins m).pT d k (ix2 s j) + (ins m).pT (devY d) k (ix2 s j) : EReal) + (ins m).rT d k (ix2 s j) = _
    rw [pT_at m d k i j s h hk hs, pT_at m (devY d) k i j s (by rw [devY_half]; exact h) hk hs, rT_at m d k i j s h hk hs,
      p_at, p_at, r_eq, (hA d).1, (hA (devY d)).1, (hA d).2.1, block_at, block_at, pair_sum, refSum_at]
  unfold Inputs.oT
  rw [tileNorm_at, refOut_at, g_at, (hA d).2.2]
  refine congrArg (fun x => normAt x (g (ix1 q)) q) ?_
  exact funext hx

/-- Every device's result is the reference's. -/
theorem outAll_eq (hA : Args m a r g) (c : Dev nD) : outAll (ins m) c = refOut a r g := by
  funext i
  obtain ⟨i, q, rfl⟩ : ∃ (j : Fin 2048) (q : Fin 2048), i = ix2 j q := ⟨i 0, i 1, eq_ix2 i⟩
  have hi := i.isLt
  have hc : c.val < 4 := c.isLt
  unfold outAll
  have ht : inTile (ix2 i q) = ix2 ⟨i.val % 64, Nat.mod_lt _ (by decide)⟩ q := by
    refine inTile_eq _ _ rfl rfl
  rw [ht]
  split
  · next h => exact oT_at hA c _ i q _ h rfl rfl
  · next h =>
    have h' : ¬ i.val / 1024 = c.val / 2 := h
    exact oT_at hA (devX c) _ i q _ (by rw [devX_half]; omega) rfl rfl

end Cert.Fused
-- ==== Proof.lean ====
/-
  The claims, assembled: the compiled program and its idealised reading run on the mesh and leave every counter at zero
  (`run_main` of each), the reference runs, and the result of the idealised reading on every device is the reference's
  (`Cert.Fused.outAll_eq`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init
public import proofs.«01_k».proof.Proof.K.Launch
public import proofs.«01_k».proof.Proof.KI.Launch
public import proofs.«01_k».proof.Proof.Value.Result

@[expose] public section

noncomputable section

namespace Cert.Proof

open Idealize.ShloMosaic Idealize.SL.Sem

theorem quiescent_kernel : Cert.quiescent_Kernel (hKernel := Cert.Kernel.Gen.facts) := fun m g _ =>
  (θ_run Cert.Kernel.defs _ _).mono (fun _ h => ⟨fun c => (h.1 c).1, h.2⟩) (Cert.Kernel.Fused.run_main m g)

theorem quiescent_kernelIdeal : Cert.quiescent_KernelIdeal (hKernelIdeal := Cert.KernelIdeal.Gen.facts) := fun m g _ =>
  (θ_run Cert.KernelIdeal.defs _ _).mono (fun _ h => ⟨fun c => (h.1 c).1, h.2⟩) (Cert.KernelIdeal.Fused.run_main m g)

theorem quiescent_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems rfl r.2⟩)
    (Cert.ReferenceIdeal.Value.run m g)

theorem algebraic : Cert.algebraic_KernelIdeal_ReferenceIdeal (hKernelIdeal := Cert.KernelIdeal.Gen.facts)
    (hReferenceIdeal := Cert.ReferenceIdeal.Gen.facts) := fun m g m' g' _ hA => by
  refine ⟨_, (θ_run Cert.KernelIdeal.defs _ _).mono (fun _ h c => ⟨(h.1 c).2.trans (Cert.Fused.outAll_eq hA c), (h.1 c).1⟩)
    (Cert.KernelIdeal.Fused.run_main m g), ?_⟩
  exact (θ_run Cert.ReferenceIdeal.defs _ _).mono (fun _ h => h 0) (Cert.ReferenceIdeal.Value.run m' g')

theorem claim : Cert.Claim := ⟨Cert.Kernel.Gen.facts, Cert.KernelIdeal.Gen.facts, Cert.ReferenceIdeal.Gen.facts,
  quiescent_kernel, quiescent_kernelIdeal, quiescent_reference, trivial, algebraic⟩

end Cert.Proof

end
